-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x100000 : Shape := ⟨2, ![32, 100000]⟩
abbrev S512x100000 : Shape := ⟨2, ![512, 100000]⟩
abbrev S8x3200 : Shape := ⟨2, ![8, 3200]⟩
abbrev S512x1 : Shape := ⟨2, ![512, 1]⟩
abbrev S16x32 : Shape := ⟨2, ![16, 32]⟩
abbrev S16x32x100000 : Shape := ⟨3, ![16, 32, 100000]⟩
abbrev S32x1 : Shape := ⟨2, ![32, 1]⟩
abbrev S32 : Shape := ⟨1, ![32]⟩
abbrev S16x32x6400 : Shape := ⟨3, ![16, 32, 6400]⟩
abbrev S16x32x1 : Shape := ⟨3, ![16, 32, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x100000, .f32⟩
  | .hbm, ⟨1, _⟩ => ⟨S512x100000, .f32⟩
  | .hbm, ⟨2, _⟩ => ⟨S512x1, .i32⟩
  | .hbm, ⟨3, _⟩ => ⟨S16x32, .i32⟩
  | .hbm, ⟨4, _⟩ => ⟨S16x32x100000, .f32⟩
  | .local _ .vmem, ⟨0, _⟩ => ⟨S8x3200, .f32⟩
  | .local _ .vmem, ⟨1, _⟩ => ⟨S8x3200, .f32⟩
  | .local _ .vmem, ⟨2, _⟩ => ⟨S32x100000, .f32⟩
  | .local _ .vmem, ⟨3, _⟩ => ⟨S32x100000, .f32⟩
  | .local _ .vmem, ⟨4, _⟩ => ⟨S32x100000, .f32⟩
  | .local _ .vmem, ⟨5, _⟩ => ⟨S32x1, .i32⟩
  | .local _ .vmem, ⟨6, _⟩ => ⟨S32x1, .i32⟩
  | .local _ .vmem, ⟨7, _⟩ => ⟨S16x32, .i32⟩
  | .local _ .vmem, ⟨8, _⟩ => ⟨S16x32x6400, .f32⟩
  | .local _ .vmem, ⟨9, _⟩ => ⟨S16x32x6400, .f32⟩
  | _, _ => ⟨S32x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg1_1 : Ref sig .tc := ⟨.vmem, 9, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem1_0 : DmaSem sig := 8
abbrev cc2_sem1_1 : DmaSem sig := 9

abbrev nD : Nat := 1
abbrev τ : Topo := Topo.v7x

variable {F : FTy → Type} [FloatOps F]

abbrev grid0 : Pipeline.Grid := ⟨2, ![64, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 1 → Memref sig .tc .vmem S16x32 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S16x32x6400 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S32x100000 : Shape := ⟨2, ![32, 100000]⟩
abbrev S_ : Shape := ⟨0, ![]⟩
abbrev S1 : Shape := ⟨1, ![1]⟩
abbrev S2 : Shape := ⟨1, ![2]⟩
abbrev S1x1x1 : Shape := ⟨3, ![1, 1, 1]⟩
abbrev S16x32x100000 : Shape := ⟨3, ![16, 32, 100000]⟩
abbrev S1x32x100000 : Shape := ⟨3, ![1, 32, 100000]⟩
abbrev S16x32 : Shape := ⟨2, ![16, 32]⟩
abbrev S16x32x1 : Shape := ⟨3, ![16, 32, 1]⟩
abbrev S1x1x100000 : Shape := ⟨3, ![1, 1, 100000]⟩

abbrev nBuf : Space → Nat
  | .hbm => 301
  | .vmem => 0
  | .smem => 0
  | _ => 0

abbrev hbmTy0_0 (i : Nat) : BufTy := match i % 128 with
  | 0 => ⟨S32x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S16x32x100000, .i64⟩
  | 22 => ⟨S16x32x100000, .i64⟩
  | 23 => ⟨S16x32x100000, .i64⟩
  | 24 => ⟨S_, .i64⟩
  | 25 => ⟨S16x32x100000, .i64⟩
  | 26 => ⟨S16x32x100000, .i64⟩
  | 27 => ⟨S_, .i64⟩
  | 28 => ⟨S16x32x100000, .i64⟩
  | 29 => ⟨S16x32x100000, .i64⟩
  | 30 => ⟨S_, .i64⟩
  | 31 => ⟨S16x32x100000, .i64⟩
  | 32 => ⟨S16x32x100000, .i64⟩
  | 33 => ⟨S16x32x100000, .i64⟩
  | 34 => ⟨S16x32x100000, .i64⟩
  | 35 => ⟨S_, .i64⟩
  | 36 => ⟨S16x32x100000, .i64⟩
  | 37 => ⟨S16x32x100000, .i64⟩
  | 38 => ⟨S16x32x100000, .i32⟩
  | 39 => ⟨S16x32x100000, .i32⟩
  | 40 => ⟨S_, .i32⟩
  | 41 => ⟨S_, .i32⟩
  | 42 => ⟨S_, .i32⟩
  | 43 => ⟨S16x32x100000, .i32⟩
  | 44 => ⟨S16x32x100000, .i32⟩
  | 45 => ⟨S16x32x100000, .i32⟩
  | 46 => ⟨S16x32x100000, .i32⟩
  | 47 => ⟨S16x32x100000, .i32⟩
  | 48 => ⟨S_, .i32⟩
  | 49 => ⟨S16x32x100000, .i32⟩
  | 50 => ⟨S16x32x100000, .i32⟩
  | 51 => ⟨S_, .i32⟩
  | 52 => ⟨S16x32x100000, .i32⟩
  | 53 => ⟨S16x32x100000, .i32⟩
  | 54 => ⟨S16x32x100000, .i32⟩
  | 55 => ⟨S16x32x100000, .i32⟩
  | 56 => ⟨S16x32x100000, .i32⟩
  | 57 => ⟨S_, .i32⟩
  | 58 => ⟨S16x32x100000, .i32⟩
  | 59 => ⟨S16x32x100000, .i32⟩
  | 60 => ⟨S_, .i32⟩
  | 61 => ⟨S16x32x100000, .i32⟩
  | 62 => ⟨S16x32x100000, .i32⟩
  | 63 => ⟨S16x32x100000, .i32⟩
  | 64 => ⟨S16x32x100000, .i32⟩
  | 65 => ⟨S16x32x100000, .i32⟩
  | 66 => ⟨S_, .i32⟩
  | 67 => ⟨S16x32x100000, .i32⟩
  | 68 => ⟨S16x32x100000, .i32⟩
  | 69 => ⟨S_, .i32⟩
  | 70 => ⟨S16x32x100000, .i32⟩
  | 71 => ⟨S16x32x100000, .i32⟩
  | 72 => ⟨S16x32x100000, .i32⟩
  | 73 => ⟨S16x32x100000, .i32⟩
  | 74 => ⟨S16x32x100000, .i32⟩
  | 75 => ⟨S_, .i32⟩
  | 76 => ⟨S16x32x100000, .i32⟩
  | 77 => ⟨S16x32x100000, .i32⟩
  | 78 => ⟨S_, .i32⟩
  | 79 => ⟨S16x32x100000, .i32⟩
  | 80 => ⟨S16x32x100000, .i32⟩
  | 81 => ⟨S16x32x100000, .i32⟩
  | 82 => ⟨S16x32x100000, .i32⟩
  | 83 => ⟨S16x32x100000, .i32⟩
  | 84 => ⟨S16x32x100000, .i32⟩
  | 85 => ⟨S16x32x100000, .i32⟩
  | 86 => ⟨S16x32x100000, .i32⟩
  | 87 => ⟨S_, .i32⟩
  | 88 => ⟨S16x32x100000, .i32⟩
  | 89 => ⟨S16x32x100000, .i32⟩
  | 90 => ⟨S16x32x100000, .i32⟩
  | 91 => ⟨S_, .i32⟩
  | 92 => ⟨S16x32x100000, .i32⟩
  | 93 => ⟨S16x32x100000, .i32⟩
  | 94 => ⟨S_, .i32⟩
  | 95 => ⟨S16x32x100000, .i32⟩
  | 96 => ⟨S16x32x100000, .i32⟩
  | 97 => ⟨S16x32x100000, .i32⟩
  | 98 => ⟨S16x32x100000, .i32⟩
  | 99 => ⟨S16x32x100000, .i32⟩
  | 100 => ⟨S_, .i32⟩
  | 101 => ⟨S16x32x100000, .i32⟩
  | 102 => ⟨S16x32x100000, .i32⟩
  | 103 => ⟨S_, .i32⟩
  | 104 => ⟨S16x32x100000, .i32⟩
  | 105 => ⟨S16x32x100000, .i32⟩
  | 106 => ⟨S16x32x100000, .i32⟩
  | 107 => ⟨S16x32x100000, .i32⟩
  | 108 => ⟨S16x32x100000, .i32⟩
  | 109 => ⟨S_, .i32⟩
  | 110 => ⟨S16x32x100000, .i32⟩
  | 111 => ⟨S16x32x100000, .i32⟩
  | 112 => ⟨S_, .i32⟩
  | 113 => ⟨S16x32x100000, .i32⟩
  | 114 => ⟨S16x32x100000, .i32⟩
  | 115 => ⟨S16x32x100000, .i32⟩
  | 116 => ⟨S16x32x100000, .i32⟩
  | 117 => ⟨S16x32x100000, .i32⟩
  | 118 => ⟨S_, .i32⟩
  | 119 => ⟨S16x32x100000, .i32⟩
  | 120 => ⟨S16x32x100000, .i32⟩
  | 121 => ⟨S_, .i32⟩
  | 122 => ⟨S16x32x100000, .i32⟩
  | 123 => ⟨S16x32x100000, .i32⟩
  | 124 => ⟨S16x32x100000, .i32⟩
  | 125 => ⟨S16x32x100000, .i32⟩
  | 126 => ⟨S16x32x100000, .i32⟩
  | 127 => ⟨S16x32x100000, .i32⟩
  | _ => ⟨S32x100000, .f32⟩

abbrev hbmTy0_1 (i : Nat) : BufTy := match i % 128 with
  | 0 => ⟨S16x32x100000, .i32⟩
  | 1 => ⟨S16x32x100000, .i32⟩
  | 2 => ⟨S_, .i32⟩
  | 3 => ⟨S16x32x100000, .i32⟩
  | 4 => ⟨S16x32x100000, .i32⟩
  | 5 => ⟨S16x32x100000, .i32⟩
  | 6 => ⟨S_, .i32⟩
  | 7 => ⟨S16x32x100000, .i32⟩
  | 8 => ⟨S16x32x100000, .i32⟩
  | 9 => ⟨S_, .i32⟩
  | 10 => ⟨S16x32x100000, .i32⟩
  | 11 => ⟨S16x32x100000, .i32⟩
  | 12 => ⟨S16x32x100000, .i32⟩
  | 13 => ⟨S16x32x100000, .i32⟩
  | 14 => ⟨S16x32x100000, .i32⟩
  | 15 => ⟨S_, .i32⟩
  | 16 => ⟨S16x32x100000, .i32⟩
  | 17 => ⟨S16x32x100000, .i32⟩
  | 18 => ⟨S_, .i32⟩
  | 19 => ⟨S16x32x100000, .i32⟩
  | 20 => ⟨S16x32x100000, .i32⟩
  | 21 => ⟨S16x32x100000, .i32⟩
  | 22 => ⟨S16x32x100000, .i32⟩
  | 23 => ⟨S16x32x100000, .i32⟩
  | 24 => ⟨S_, .i32⟩
  | 25 => ⟨S16x32x100000, .i32⟩
  | 26 => ⟨S16x32x100000, .i32⟩
  | 27 => ⟨S_, .i32⟩
  | 28 => ⟨S16x32x100000, .i32⟩
  | 29 => ⟨S16x32x100000, .i32⟩
  | 30 => ⟨S16x32x100000, .i32⟩
  | 31 => ⟨S16x32x100000, .i32⟩
  | 32 => ⟨S16x32x100000, .i32⟩
  | 33 => ⟨S_, .i32⟩
  | 34 => ⟨S16x32x100000, .i32⟩
  | 35 => ⟨S16x32x100000, .i32⟩
  | 36 => ⟨S_, .i32⟩
  | 37 => ⟨S16x32x100000, .i32⟩
  | 38 => ⟨S16x32x100000, .i32⟩
  | 39 => ⟨S16x32x100000, .i32⟩
  | 40 => ⟨S16x32x100000, .i32⟩
  | 41 => ⟨S16x32x100000, .i32⟩
  | 42 => ⟨S16x32x100000, .i32⟩
  | 43 => ⟨S16x32x100000, .i32⟩
  | 44 => ⟨S16x32x100000, .i32⟩
  | 45 => ⟨S_, .i32⟩
  | 46 => ⟨S16x32x100000, .i32⟩
  | 47 => ⟨S16x32x100000, .i32⟩
  | 48 => ⟨S16x32x100000, .i32⟩
  | 49 => ⟨S_, .i32⟩
  | 50 => ⟨S16x32x100000, .i32⟩
  | 51 => ⟨S16x32x100000, .i32⟩
  | 52 => ⟨S_, .i32⟩
  | 53 => ⟨S16x32x100000, .i32⟩
  | 54 => ⟨S16x32x100000, .i32⟩
  | 55 => ⟨S16x32x100000, .i32⟩
  | 56 => ⟨S16x32x100000, .i32⟩
  | 57 => ⟨S16x32x100000, .i32⟩
  | 58 => ⟨S_, .i32⟩
  | 59 => ⟨S16x32x100000, .i32⟩
  | 60 => ⟨S16x32x100000, .i32⟩
  | 61 => ⟨S_, .i32⟩
  | 62 => ⟨S16x32x100000, .i32⟩
  | 63 => ⟨S16x32x100000, .i32⟩
  | 64 => ⟨S16x32x100000, .i32⟩
  | 65 => ⟨S16x32x100000, .i32⟩
  | 66 => ⟨S16x32x100000, .i32⟩
  | 67 => ⟨S_, .i32⟩
  | 68 => ⟨S16x32x100000, .i32⟩
  | 69 => ⟨S16x32x100000, .i32⟩
  | 70 => ⟨S_, .i32⟩
  | 71 => ⟨S16x32x100000, .i32⟩
  | 72 => ⟨S16x32x100000, .i32⟩
  | 73 => ⟨S16x32x100000, .i32⟩
  | 74 => ⟨S16x32x100000, .i32⟩
  | 75 => ⟨S16x32x100000, .i32⟩
  | 76 => ⟨S_, .i32⟩
  | 77 => ⟨S16x32x100000, .i32⟩
  | 78 => ⟨S16x32x100000, .i32⟩
  | 79 => ⟨S_, .i32⟩
  | 80 => ⟨S16x32x100000, .i32⟩
  | 81 => ⟨S16x32x100000, .i32⟩
  | 82 => ⟨S16x32x100000, .i32⟩
  | 83 => ⟨S16x32x100000, .i32⟩
  | 84 => ⟨S16x32x100000, .i32⟩
  | 85 => ⟨S16x32x100000, .i32⟩
  | 86 => ⟨S16x32x100000, .i32⟩
  | 87 => ⟨S16x32x100000, .i32⟩
  | 88 => ⟨S_, .i32⟩
  | 89 => ⟨S16x32x100000, .i32⟩
  | 90 => ⟨S16x32x100000, .i32⟩
  | 91 => ⟨S16x32x100000, .i32⟩
  | 92 => ⟨S_, .i32⟩
  | 93 => ⟨S16x32x100000, .i32⟩
  | 94 => ⟨S16x32x100000, .i32⟩
  | 95 => ⟨S_, .i32⟩
  | 96 => ⟨S16x32x100000, .i32⟩
  | 97 => ⟨S16x32x100000, .i32⟩
  | 98 => ⟨S16x32x100000, .i32⟩
  | 99 => ⟨S16x32x100000, .i32⟩
  | 100 => ⟨S16x32x100000, .i32⟩
  | 101 => ⟨S_, .i32⟩
  | 102 => ⟨S16x32x100000, .i32⟩
  | 103 => ⟨S16x32x100000, .i32⟩
  | 104 => ⟨S_, .i32⟩
  | 105 => ⟨S16x32x100000, .i32⟩
  | 106 => ⟨S16x32x100000, .i32⟩
  | 107 => ⟨S16x32x100000, .i32⟩
  | 108 => ⟨S16x32x100000, .i32⟩
  | 109 => ⟨S16x32x100000, .i32⟩
  | 110 => ⟨S_, .i32⟩
  | 111 => ⟨S16x32x100000, .i32⟩
  | 112 => ⟨S16x32x100000, .i32⟩
  | 113 => ⟨S_, .i32⟩
  | 114 => ⟨S16x32x100000, .i32⟩
  | 115 => ⟨S16x32x100000, .i32⟩
  | 116 => ⟨S16x32x100000, .i32⟩
  | 117 => ⟨S16x32x100000, .i32⟩
  | 118 => ⟨S16x32x100000, .i32⟩
  | 119 => ⟨S_, .i32⟩
  | 120 => ⟨S16x32x100000, .i32⟩
  | 121 => ⟨S16x32x100000, .i32⟩
  | 122 => ⟨S_, .i32⟩
  | 123 => ⟨S16x32x100000, .i32⟩
  | 124 => ⟨S16x32x100000, .i32⟩
  | 125 => ⟨S16x32x100000, .i32⟩
  | 126 => ⟨S16x32x100000, .i32⟩
  | 127 => ⟨S16x32x100000, .i32⟩
  | _ => ⟨S32x100000, .f32⟩

abbrev hbmTy0_2 (i : Nat) : BufTy := match i % 128 with
  | 0 => ⟨S16x32x100000, .i32⟩
  | 1 => ⟨S16x32x100000, .i32⟩
  | 2 => ⟨S16x32x100000, .i32⟩
  | 3 => ⟨S_, .i32⟩
  | 4 => ⟨S16x32x100000, .i32⟩
  | 5 => ⟨S16x32x100000, .i32⟩
  | 6 => ⟨S16x32x100000, .i32⟩
  | 7 => ⟨S_, .i32⟩
  | 8 => ⟨S16x32x100000, .i32⟩
  | 9 => ⟨S16x32x100000, .i32⟩
  | 10 => ⟨S_, .i32⟩
  | 11 => ⟨S16x32x100000, .i32⟩
  | 12 => ⟨S16x32x100000, .i32⟩
  | 13 => ⟨S16x32x100000, .f32⟩
  | 14 => ⟨S_, .f32⟩
  | 15 => ⟨S16x32x100000, .f32⟩
  | 16 => ⟨S16x32x100000, .f32⟩
  | 17 => ⟨S1x1x1, .f32⟩
  | 18 => ⟨S16x32x100000, .f32⟩
  | 19 => ⟨S16x32x100000, .f32⟩
  | 20 => ⟨S16x32x100000, .f32⟩
  | 21 => ⟨S16x32x100000, .f32⟩
  | 22 => ⟨S16x32x100000, .f32⟩
  | 23 => ⟨S16x32x100000, .f32⟩
  | 24 => ⟨S_, .f32⟩
  | 25 => ⟨S16x32x100000, .f32⟩
  | 26 => ⟨S16x32x100000, .f32⟩
  | 27 => ⟨S16x32x100000, .f32⟩
  | 28 => ⟨S16x32x100000, .f32⟩
  | 29 => ⟨S16x32x100000, .f32⟩
  | 30 => ⟨S16x32x100000, .f32⟩
  | 31 => ⟨S1x32x100000, .f32⟩
  | 32 => ⟨S16x32x100000, .f32⟩
  | 33 => ⟨S16x32x100000, .f32⟩
  | 34 => ⟨S16x32x100000, .i32⟩
  | 35 => ⟨S_, .f32⟩
  | 36 => ⟨S_, .i32⟩
  | 37 => ⟨S16x32, .f32⟩
  | 38 => ⟨S16x32, .i32⟩
  | 39 => ⟨S16x32x1, .i32⟩
  | 40 => ⟨S1x1x100000, .i32⟩
  | 41 => ⟨S16x32x100000, .i32⟩
  | 42 => ⟨S16x32x100000, .i32⟩
  | 43 => ⟨S16x32x100000, .i1⟩
  | 44 => ⟨S16x32x100000, .f32⟩
  | _ => ⟨S32x100000, .f32⟩

abbrev hbmTy (i : Nat) : BufTy := match i / 128 with
  | 0 => hbmTy0_0 i
  | 1 => hbmTy0_1 i
  | 2 => hbmTy0_2 i
  | _ => ⟨S32x100000, .f32⟩

abbrev bufTy : (tb : Table) → Fin (tcTables nBuf tb) → BufTy
  | .hbm, ⟨i, _⟩ => hbmTy i
  | _, _ => ⟨S32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_cst_3 : Ref sig .tc := ⟨.hbm, 280, rfl⟩
abbrev main_v8 : Ref sig .tc := ⟨.hbm, 281, rfl⟩
abbrev main_v9 : Ref sig .tc := ⟨.hbm, 282, rfl⟩
abbrev main_v10 : Ref sig .tc := ⟨.hbm, 283, rfl⟩
abbrev main_v11 : Ref sig .tc := ⟨.hbm, 284, rfl⟩
abbrev main_v12 : Ref sig .tc := ⟨.hbm, 285, rfl⟩
abbrev main_v13 : Ref sig .tc := ⟨.hbm, 286, rfl⟩
abbrev main_v14 : Ref sig .tc := ⟨.hbm, 287, rfl⟩
abbrev main_v15 : Ref sig .tc := ⟨.hbm, 288, rfl⟩
abbrev main_v16 : Ref sig .tc := ⟨.hbm, 289, rfl⟩
abbrev main_call1_v0 : Ref sig .tc := ⟨.hbm, 290, rfl⟩
abbrev main_call1_cst : Ref sig .tc := ⟨.hbm, 291, rfl⟩
abbrev main_call1_c : Ref sig .tc := ⟨.hbm, 292, rfl⟩
abbrev main_call1_v1_0 : Ref sig .tc := ⟨.hbm, 293, rfl⟩
abbrev main_v17 : Ref sig .tc := ⟨.hbm, 294, rfl⟩
abbrev main_call2_v0 : Ref sig .tc := ⟨.hbm, 295, rfl⟩
abbrev main_call2_v1 : Ref sig .tc := ⟨.hbm, 296, rfl⟩
abbrev main_call2_v2 : Ref sig .tc := ⟨.hbm, 297, rfl⟩
abbrev main_call2_v3 : Ref sig .tc := ⟨.hbm, 298, rfl⟩
abbrev main_call2_v4 : Ref sig .tc := ⟨.hbm, 299, rfl⟩
abbrev main_v18 : Ref sig .tc := ⟨.hbm, 300, rfl⟩

abbrev nD : Nat := 1
abbrev τ : Topo := Topo.v7x

variable {F : FTy → Type} [FloatOps F]
-- ==== Proof.FrameIdeal.lean ====
/-
  The frame certificate of `KernelIdeal`, whose `main` is three TensorCore regions with one host operation between the second
  and the third: per region the blocks of its windows, what its body leaves in each output block, the body's triple and the
  proof data; then the buffers' contents at every boundary of a region and the run. It is the text of the generated
  Proof/Gen/KernelIdeal/Frame.lean but for four things: a doc comment that stands there with no declaration under it (the
  first region has no input window) is left out, as are the rule of a tactic that names the values of the first region's body
  and the audit at the end; and the frame is read off a run stated of every buffer's contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0__gen_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S8x3200 := Rect.unit (s := S8x3200) ![0, 0] S8x3200.size inb_S8x3200_S8x3200_0_0

/-! ## What the body leaves in each output window's buffer -/

/-! ### Values of the body that the stores' payloads, spelt out, would write more than once

    Each is a vector the body binds (often a part call's result), stated over the input windows' blocks and
    numbered on from the skeleton's payload functions (`k0_pay48` …, after `k0_pay47`), so that
    `out0_W` and the values after it name it instead of spelling it out; the comment after each is the printed function's
    name for the value (a count appended where that name is bound again). -/

def k0_pay48 (i : grid0.Coords)  : IVec S8x3200 32 :=
  k0_pay10 i -- `v41`
def k0_pay49 (i : grid0.Coords)  : IVec S8x3200 32 :=
  k0_pay11 i -- `v43`
def k0_pay50 (i : grid0.Coords)  : IVec S8x3200 32 :=
  k0_pay21 (k0_pay48 i) (k0_pay49 i) -- `v82`
def k0_pay51 (i : grid0.Coords)  : IVec S8x3200 32 :=
  k0_pay22 (k0_pay48 i) (k0_pay49 i) -- `v88`
def k0_pay52 (i : grid0.Coords)  : IVec S8x3200 32 :=
  k0_pay32 (k0_pay50 i) (k0_pay51 i) -- `v129`
def k0_pay53 (i : grid0.Coords)  : IVec S8x3200 32 :=
  k0_pay33 (k0_pay50 i) (k0_pay51 i) -- `v130`
def k0_pay54 (i : grid0.Coords)  : IVec S8x3200 32 :=
  k0_pay34 (k0_pay50 i) (k0_pay51 i) -- `v132`
def k0_pay55 (i : grid0.Coords)  : IVec S8x3200 32 :=
  k0_pay35 -- `v133`

/-- Window 0's staging buffer after the body, from the input windows' blocks: its 1 store as pieces, LAST
    FIRST (Lib/Pipeline/FrameBody.lean `View.canon`; the payloads are the skeleton's and the values stated above). -/
def out0_0 (i : grid0.Coords)  : Vec F S8x3200 .f32 :=
  View.canon [⟨r0_0, k0_pay1 (F := F) (k0_pay46 (k0_pay52 i) (k0_pay53 i) (k0_pay54 i) (k0_pay55 i)) (k0_pay47 (k0_pay52 i) (k0_pay53 i) (k0_pay54 i) (k0_pay55 i))⟩]

/-- Its stores tile the buffer (checked by evaluation), so they cover it. -/
theorem cover0_0 (p0 : Vec F S8x3200 .f32) (y : S8x3200.Idx) :
    ∃ pc ∈ ([⟨r0_0, p0⟩] : List (View.Piece (Elt F) S8x3200 .f32)), y ∈ pc.1.set :=
  View.cover_of_tiled [⟨r0_0, p0⟩] S8x3200.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S8x3200 .f32) (harg2 : arg2.IsWhole)
     (K : PUnit → sProp 𝕄) :
    iprop((∃ d, owns (c : Thread nD τ) arg2 fullShare d)
        ∗ (iprop(owns (c : Thread nD τ) arg2 fullShare (out0_0 i )) -∗ K ⟨⟩))
      ⊢ wp frame (wpE (defs₀ (F := F)) Variants.none c none) E (cc0__gen_kernel i arg2 harg2) K := by
  simp only [cc0__gen_kernel_eq_skeleton]; unfold cc0__gen_kernel_skel
  simp only [k0_part1_eq_skeleton, k0_part2_eq_skeleton, k0_part3_eq_skeleton, k0_part4_eq_skeleton]
  unfold owns
  iintro ⟨⟨%d0, %f0, -, H0⟩, Hk⟩
  sl_exec
  sl_step
  iapply Hk
  iexists _; isplitr
  swap; · iexact H0
  ipureintro
  refine (View.read_writes_eq_canon _ _ _ (cover0_0 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => out0_0 (grid0.coords t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = out0_0 (grid0.coords t)  := by dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0]
  iintro ⟨HΦ, Ho, ⟨%d0, H0⟩⟩
  iapply (sound_kernel0 c Set.univ (grid0.coords t) _ _  _)
  isplitl [H0]; · iexists _; iexact H0
  iintro ⟨H0⟩
  isplitl [HΦ]; · iexact HΦ
  isplitl [Ho]; · iexact Ho
  iexact H0

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__argmax_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S32x100000 := Rect.unit (s := S32x100000) ![0, 0] S32x100000.size inb_S32x100000_S32x100000_0_0
abbrev r1_1 : Rect S32x1 := Rect.unit (s := S32x1) ![0, 0] S32x1.size inb_S32x1_S32x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S32x100000 .f32) (x1 : Vec F S32x100000 .f32) : Vec F S32x1 .i32 :=
  View.canon [⟨r1_1, k1_pay1 (View.ld x0 r1_0) (View.ld x1 r1_0)⟩]

/-- Its stores tile the buffer (checked by evaluation), so they cover it. -/
theorem cover1_2 (p0 : Vec F S32x1 .i32) (y : S32x1.Idx) :
    ∃ pc ∈ ([⟨r1_1, p0⟩] : List (View.Piece (Elt F) S32x1 .i32)), y ∈ pc.1.set :=
  View.cover_of_tiled [⟨r1_1, p0⟩] S32x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S32x100000 .f32) (harg1 : arg1.IsWhole) (arg2 : Memref sig .tc .vmem S32x100000 .f32) (harg2 : arg2.IsWhole) (arg3 : Memref sig .tc .vmem S32x1 .i32) (harg3 : arg3.IsWhole)
    (x0 : Vec F S32x100000 .f32) (x1 : Vec F S32x100000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__argmax_kernel i arg1 harg1 arg2 harg2 arg3 harg3) K := by
  simp only [cc1__argmax_kernel_eq_skeleton]; unfold cc1__argmax_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__onehot_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S16x32 := Rect.unit (s := S16x32) ![0, 0] S16x32.size inb_S16x32_S16x32_0_0
abbrev r2_1 : Rect S16x32x6400 := Rect.unit (s := S16x32x6400) ![0, 0, 0] S16x32x6400.size inb_S16x32x6400_S16x32x6400_0_0_0

/-! ## What the body leaves in each output window's buffer -/

/-- Window 1's staging buffer after the body, from the input windows' blocks: its 1 store as pieces, LAST
    FIRST (Lib/Pipeline/FrameBody.lean `View.canon`; the payloads are the skeleton's). -/
def out2_1 (i : grid2.Coords) (x0 : Vec F S16x32 .i32) : Vec F S16x32x6400 .f32 :=
  View.canon [⟨r2_1, k2_pay1 i (View.ld x0 r2_0)⟩]

/-- Its stores tile the buffer (checked by evaluation), so they cover it. -/
theorem cover2_1 (p0 : Vec F S16x32x6400 .f32) (y : S16x32x6400.Idx) :
    ∃ pc ∈ ([⟨r2_1, p0⟩] : List (View.Piece (Elt F) S16x32x6400 .f32)), y ∈ pc.1.set :=
  View.cover_of_tiled [⟨r2_1, p0⟩] S16x32x6400.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S16x32 .i32) (harg1 : arg1.IsWhole) (arg2 : Memref sig .tc .vmem S16x32x6400 .f32) (harg2 : arg2.IsWhole)
    (x0 : Vec F S16x32 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 i x0)) -∗ K ⟨⟩))
      ⊢ wp frame (wpE (defs₀ (F := F)) Variants.none c none) E (cc2__onehot_kernel i arg1 harg1 arg2 harg2) K := by
  simp only [cc2__onehot_kernel_eq_skeleton]; unfold cc2__onehot_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (grid2.coords t) (iblk2 V c 0 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = out2_1 (grid2.coords t) (iblk2 V c 0 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0]

/-! ## The host stretches: none allocates a buffer, and each lists the references its operations write, in order,
    so that a reference absent from the list keeps its contents across the stretch (Lib/StableHlo/Run.lean
    `after_of_writes_sub`) -/

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call0_v1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt F) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt F) ((c : Thread nD τ).loc b) := fun c b => W3 m ρ c b
/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: at the compiled mesh, from any memory with zero counters, every weakly fair execution of @main on the
    TensorCores terminates, nothing faulting, and every final state has every unscoped buffer at the last boundary's
    contents `W4` and every semaphore counter of the machine at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end unchanged and every semaphore counter at zero, read off the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h =>
    ⟨fun c => (h.1 c _ (mem_uc main_arg0 (by decide))).trans (W4_main_arg0 m ρ c), h.2⟩) (run m ρ)

end Cert.KernelIdeal.Gen

end
-- ==== Proof.Threefry.lean ====
/-
  The mathematics of the random field, on words and extended reals: the threefry hash of a 64-bit count whose high
  word is zero, the Gumbel variate made of its 23 top bits, and the count of one entry.
-/
module

public import Idealize.ShloMosaic.PureOps.Ideal.Laws

@[expose] public section

noncomputable section

open Idealize.ShloMosaic

namespace Cert.Proof

/-- One threefry round: add the two words, rotate the second left by `r` (`s = 32 - r`), exclusive-or it with the sum. -/
def mix (r s : Nat) (p : BitVec 32 × BitVec 32) : BitVec 32 × BitVec 32 :=
  (p.1 + p.2, (p.1 + p.2) ^^^ (p.2 <<< r ||| p.2 >>> s))

/-- A key injection: `a` onto the first word, `b` and the count `n` of the injections so far onto the second. -/
def inject (a b n : BitVec 32) (p : BitVec 32 × BitVec 32) : BitVec 32 × BitVec 32 :=
  (p.1 + a, p.2 + b + n)

/-- Four rounds at the rotations 13, 15, 26, 6. -/
def rounds₁ (p : BitVec 32 × BitVec 32) : BitVec 32 × BitVec 32 :=
  mix 6 26 (mix 26 6 (mix 15 17 (mix 13 19 p)))

/-- Four rounds at the rotations 17, 29, 16, 24. -/
def rounds₂ (p : BitVec 32 × BitVec 32) : BitVec 32 × BitVec 32 :=
  mix 24 8 (mix 16 16 (mix 29 3 (mix 17 15 p)))

/-- The threefry hash with 20 rounds, of the pair `p` under the key words `k₀`, `k₁` and their parity word `k₂`. -/
def threefry (k₀ k₁ k₂ : BitVec 32) (p : BitVec 32 × BitVec 32) : BitVec 32 × BitVec 32 :=
  inject k₂ k₀ 5 (rounds₁ (inject k₁ k₂ 4 (rounds₂ (inject k₀ k₁ 3 (rounds₁ (inject k₂ k₀ 2 (rounds₂
    (inject k₁ k₂ 1 (rounds₁ (p.1 + k₀, p.2 + k₁))))))))))

/-- The random word of the count `n` under the key (0, 1): the two words of its hash, exclusive-or'ed. -/
def word (n : BitVec 32) : BitVec 32 :=
  (threefry 0 1 466688987 (0, n)).1 ^^^ (threefry 0 1 466688987 (0, n)).2

/-- The uniform variate of a random word: its top 23 bits as the mantissa of a number in `[1, 2)`, minus one. -/
def unit (w : BitVec 32) : EReal :=
  Ideal.ofBits .f32 (w >>> 9 ||| 1065353216#32) - Ideal.ofBits .f32 0x3F800000#32

/-- The Gumbel variate `-log (-log u)` of the count `n`, its uniform variate kept at the least normal number or above. -/
def gumbel (n : BitVec 32) : EReal :=
  -Ideal.log (-Ideal.log (max (Ideal.ofBits .f32 0x00800000#32) (unit (word n))))

/-- The count of entry `v` of row `r` of the field, its rows 100000 entries long. -/
def count (r v : Nat) : BitVec 32 := BitVec.ofNat 32 (r * 100000 + v)

end Cert.Proof

end
-- ==== Proof.KernelBits.lean ====
/-
  What one block of the first launch computes: at every element the Gumbel variate of the count of its row and column. The
  body's values are taken in pairs, the two words of the hash after each round.
-/
module

public import proofs.«01_k».proof.Proof.FrameIdeal
public import proofs.«01_k».proof.Proof.Threefry
public import Idealize.ShloMosaic.Lib.Pointwise

@[expose] public section

noncomputable section

open Idealize.ShloMosaic

namespace Cert.Proof.Bits

open Cert.KernelIdeal Cert.KernelIdeal.Gen

/-- A round with the exclusive or's operands in the other order. -/
theorem mix_comm (r s : Nat) (p : BitVec 32 × BitVec 32) :
    (p.1 + p.2, (p.2 <<< r ||| p.2 >>> s) ^^^ (p.1 + p.2)) = mix r s p := Prod.ext rfl (BitVec.xor_comm _ _)

variable (i : grid0.Coords) (y : S8x3200.Idx)

/-- The first four rounds, from the count with the key added. -/
theorem group0 : (k0_pay9 i y, k0_pay10 i y) = rounds₁ (0#32, k0_pay2 i y) := by
  have a : (k0_pay3 i y, k0_pay4 i y) = mix 13 19 (0#32, k0_pay2 i y) := mix_comm 13 19 (0#32, k0_pay2 i y)
  have b : (k0_pay5 i y, k0_pay6 i y) = mix 15 17 (k0_pay3 i y, k0_pay4 i y) := mix_comm 15 17 (k0_pay3 i y, k0_pay4 i y)
  have c : (k0_pay7 i y, k0_pay8 i y) = mix 26 6 (k0_pay5 i y, k0_pay6 i y) := mix_comm 26 6 (k0_pay5 i y, k0_pay6 i y)
  have d : (k0_pay9 i y, k0_pay10 i y) = mix 6 26 (k0_pay7 i y, k0_pay8 i y) := mix_comm 6 26 (k0_pay7 i y, k0_pay8 i y)
  rw [d, c, b, a, rounds₁]

variable (v41 v43 : IVec S8x3200 32)

/-- The next four rounds and the injection after them, from the words before the first injection is whole. -/
theorem group1 : (k0_pay19 v41 v43 y + 466688987#32, k0_pay20 v41 v43 y)
    = inject 466688987#32 0#32 2 (rounds₂ (v43 y, v41 y + 466688987#32 + 1#32)) := by
  have a : (k0_pay13 v41 v43 y, k0_pay14 v41 v43 y) = mix 17 15 (v43 y, v41 y + 466688987#32 + 1#32) :=
    mix_comm 17 15 (v43 y, k0_pay12 v41 y)
  have b : (k0_pay15 v41 v43 y, k0_pay16 v41 v43 y) = mix 29 3 (k0_pay13 v41 v43 y, k0_pay14 v41 v43 y) :=
    mix_comm 29 3 (k0_pay13 v41 v43 y, k0_pay14 v41 v43 y)
  have c : (k0_pay17 v41 v43 y, k0_pay18 v41 v43 y) = mix 16 16 (k0_pay15 v41 v43 y, k0_pay16 v41 v43 y) :=
    mix_comm 16 16 (k0_pay15 v41 v43 y, k0_pay16 v41 v43 y)
  have d : (k0_pay19 v41 v43 y + 466688987#32, k0_pay20 v41 v43 y)
      = inject 466688987#32 0#32 2 (mix 24 8 (k0_pay17 v41 v43 y, k0_pay18 v41 v43 y)) := by
    rw [← mix_comm]
    exact Prod.ext (congrArg (· + 466688987#32) (rfl : k0_pay19 v41 v43 y = k0_pay17 v41 v43 y + k0_pay18 v41 v43 y)) rfl
  rw [d, c, b, a, rounds₂]

/-- The first round after that injection. -/
theorem group2_first : (k0_pay21 v41 v43 y, k0_pay22 v41 v43 y)
    = mix 13 19 (k0_pay19 v41 v43 y + 466688987#32, k0_pay20 v41 v43 y) :=
  mix_comm 13 19 (k0_pay19 v41 v43 y + 466688987#32, k0_pay20 v41 v43 y)

variable (v82 v88 : IVec S8x3200 32)

/-- The three rounds after that one, the third injection, and two rounds of the fourth group. -/
theorem group2_rest : (k0_pay31 v82 v88 y, k0_pay32 v82 v88 y)
    = mix 29 3 (mix 17 15 (inject 0#32 1#32 3 (mix 6 26 (mix 26 6 (mix 15 17 (v82 y, v88 y)))))) := by
  have a : (k0_pay23 v82 v88 y, k0_pay24 v82 v88 y) = mix 15 17 (v82 y, v88 y) := mix_comm 15 17 (v82 y, v88 y)
  have b : (k0_pay25 v82 v88 y, k0_pay26 v82 v88 y) = mix 26 6 (k0_pay23 v82 v88 y, k0_pay24 v82 v88 y) :=
    mix_comm 26 6 (k0_pay23 v82 v88 y, k0_pay24 v82 v88 y)
  have c : (k0_pay27 v82 v88 y + 0#32, k0_pay28 v82 v88 y)
      = inject 0#32 1#32 3 (mix 6 26 (k0_pay25 v82 v88 y, k0_pay26 v82 v88 y)) :=
    congrArg (inject 0#32 1#32 3) (mix_comm 6 26 (k0_pay25 v82 v88 y, k0_pay26 v82 v88 y))
  have d : (k0_pay29 v82 v88 y, k0_pay30 v82 v88 y) = mix 17 15 (k0_pay27 v82 v88 y + 0#32, k0_pay28 v82 v88 y) :=
    mix_comm 17 15 (k0_pay27 v82 v88 y + 0#32, k0_pay28 v82 v88 y)
  have e : (k0_pay31 v82 v88 y, k0_pay32 v82 v88 y) = mix 29 3 (k0_pay29 v82 v88 y, k0_pay30 v82 v88 y) :=
    mix_comm 29 3 (k0_pay29 v82 v88 y, k0_pay30 v82 v88 y)
  rw [e, d, c, b, a]

variable (v129 v130 v132 v133 : IVec S8x3200 32)

/-- The third and fourth round of the fourth group, from the two words `p`, the first of them already in the sum and the
    second already shifted one way, and the fourth injection. -/
theorem group3_rest {p : BitVec 32 × BitVec 32} (h₁ : v129 y = p.2) (h₂ : v130 y = p.1 + p.2) (h₃ : v132 y = p.2 <<< 16)
    (h₄ : v133 y = 16#32) : (k0_pay37 v129 v130 v132 v133 y + 1#32, k0_pay38 v129 v130 v132 v133 y)
      = inject 1#32 466688987#32 4 (mix 24 8 (mix 16 16 p)) := by
  have a : (v130 y, k0_pay36 v129 v130 v132 v133 y) = mix 16 16 p := by
    rw [← mix_comm]
    refine Prod.ext h₂ ?_
    show (v132 y ||| IntOp.shrui .vector (v129 y) (v133 y)) ^^^ v130 y = _
    rw [h₁, h₂, h₃, h₄]
    rfl
  have b : (k0_pay37 v129 v130 v132 v133 y + 1#32, k0_pay38 v129 v130 v132 v133 y)
      = inject 1#32 466688987#32 4 (mix 24 8 (v130 y, k0_pay36 v129 v130 v132 v133 y)) :=
    congrArg (inject 1#32 466688987#32 4) (mix_comm 24 8 (v130 y, k0_pay36 v129 v130 v132 v133 y))
  rw [b, a]

/-- The last four rounds. -/
theorem group4 : (k0_pay45 v129 v130 v132 v133 y, k0_pay46 v129 v130 v132 v133 y)
    = rounds₁ (k0_pay37 v129 v130 v132 v133 y + 1#32, k0_pay38 v129 v130 v132 v133 y) := by
  have a : (k0_pay39 v129 v130 v132 v133 y, k0_pay40 v129 v130 v132 v133 y)
      = mix 13 19 (k0_pay37 v129 v130 v132 v133 y + 1#32, k0_pay38 v129 v130 v132 v133 y) :=
    mix_comm 13 19 (k0_pay37 v129 v130 v132 v133 y + 1#32, k0_pay38 v129 v130 v132 v133 y)
  have b : (k0_pay41 v129 v130 v132 v133 y, k0_pay42 v129 v130 v132 v133 y)
      = mix 15 17 (k0_pay39 v129 v130 v132 v133 y, k0_pay40 v129 v130 v132 v133 y) :=
    mix_comm 15 17 (k0_pay39 v129 v130 v132 v133 y, k0_pay40 v129 v130 v132 v133 y)
  have c : (k0_pay43 v129 v130 v132 v133 y, k0_pay44 v129 v130 v132 v133 y)
      = mix 26 6 (k0_pay41 v129 v130 v132 v133 y, k0_pay42 v129 v130 v132 v133 y) :=
    mix_comm 26 6 (k0_pay41 v129 v130 v132 v133 y, k0_pay42 v129 v130 v132 v133 y)
  have d : (k0_pay45 v129 v130 v132 v133 y, k0_pay46 v129 v130 v132 v133 y)
      = mix 6 26 (k0_pay43 v129 v130 v132 v133 y, k0_pay44 v129 v130 v132 v133 y) :=
    mix_comm 6 26 (k0_pay43 v129 v130 v132 v133 y, k0_pay44 v129 v130 v132 v133 y)
  rw [d, c, b, a, rounds₁]

/-- The last injection, the exclusive or of the two words, and the variate made of it. -/
theorem variate (v177 v179 : IVec S8x3200 32) : k0_pay1 (F := Ideal) v177 v179 y
    = -Ideal.log (-Ideal.log (max (Ideal.ofBits .f32 0x00800000#32) (unit (v179 y ^^^ (v177 y + 0#32 + 5#32))))) := by
  have h : k0_pay1 (F := Ideal) v177 v179 y = Ideal.ofBits .f32 0x00000000#32 - Ideal.log (Ideal.ofBits .f32 0x00000000#32
      - Ideal.log (max (Ideal.ofBits .f32 0x00800000#32) (unit (v179 y ^^^ (v177 y + 0#32 + 5#32))))) := rfl
  rw [h, Ideal.ofBits_zero_f32, zero_sub, zero_sub]

/-- The count with the key added. -/
theorem count_key : k0_pay2 i y = count ((i 0).val * 8 + (y 0).val) ((i 1).val * 3200 + (y 1).val) + 1#32 := by
  have h : k0_pay2 i y = (BitVec.ofNat 32 (y 0).val + BitVec.ofNat 32 (i 0).val * 8#32) * 100000#32
      + (BitVec.ofNat 32 (y 1).val + BitVec.ofNat 32 (i 1).val * 3200#32) + 1#32 := by
    unfold k0_pay2
    pointwise
    rfl
  rw [h]
  refine congrArg (· + 1#32) (BitVec.eq_of_toNat_eq ?_)
  simp only [count, BitVec.toNat_add, BitVec.toNat_mul, BitVec.toNat_ofNat]
  omega

/-- The two words before the second injection is done, as the launch's body passes them on. -/
theorem words1 : (k0_pay50 i y, k0_pay51 i y) = mix 13 19 (inject 466688987#32 0#32 2 (rounds₂ (inject 1#32 466688987#32 1
    (rounds₁ (0#32, k0_pay2 i y))))) := by
  unfold k0_pay50 k0_pay51
  rw [group2_first, group1, ← group0]
  rfl

/-- The words after two rounds of the fourth group. -/
theorem words2 : (k0_pay31 (k0_pay50 i) (k0_pay51 i) y, k0_pay32 (k0_pay50 i) (k0_pay51 i) y)
    = mix 29 3 (mix 17 15 (inject 0#32 1#32 3 (rounds₁ (inject 466688987#32 0#32 2 (rounds₂ (inject 1#32 466688987#32 1
      (rounds₁ (0#32, k0_pay2 i y)))))))) := by
  rw [group2_rest, words1, ← rounds₁]

/-- The words after the last round. -/
theorem words3 :
    (k0_pay45 (k0_pay52 i) (k0_pay53 i) (k0_pay54 i) (k0_pay55 i) y, k0_pay46 (k0_pay52 i) (k0_pay53 i) (k0_pay54 i) (k0_pay55 i) y)
      = rounds₁ (inject 1#32 466688987#32 4 (rounds₂ (inject 0#32 1#32 3 (rounds₁ (inject 466688987#32 0#32 2 (rounds₂
        (inject 1#32 466688987#32 1 (rounds₁ (0#32, k0_pay2 i y))))))))) := by
  rw [group4, group3_rest (p := (k0_pay31 (k0_pay50 i) (k0_pay51 i) y, k0_pay32 (k0_pay50 i) (k0_pay51 i) y)) y _ _ _ _ rfl rfl rfl
    rfl, words2, ← rounds₂]

/-- The hash of the count `n` with the key added, in the groups above. -/
theorem threefry_eq (n : BitVec 32) : threefry 0 1 466688987 (0, n)
    = inject 466688987#32 0#32 5 (rounds₁ (inject 1#32 466688987#32 4 (rounds₂ (inject 0#32 1#32 3 (rounds₁
        (inject 466688987#32 0#32 2 (rounds₂ (inject 1#32 466688987#32 1 (rounds₁ (0#32, n + 1#32)))))))))) := by
  have h : (((0 : BitVec 32), n).1 + 0, ((0 : BitVec 32), n).2 + 1) = (0#32, n + 1#32) := Prod.ext rfl rfl
  rw [threefry, h]
  rfl

/-- Every element of a block: the Gumbel variate of the count of its row and column. -/
theorem block_eq : k0_pay1 (F := Ideal) (k0_pay46 (k0_pay52 i) (k0_pay53 i) (k0_pay54 i) (k0_pay55 i))
      (k0_pay47 (k0_pay52 i) (k0_pay53 i) (k0_pay54 i) (k0_pay55 i)) y
    = gumbel (count ((i 0).val * 8 + (y 0).val) ((i 1).val * 3200 + (y 1).val)) := by
  have h := words3 i y
  rw [count_key] at h
  rw [variate, gumbel, word, threefry_eq, ← h]
  rfl

end Cert.Proof.Bits

end
-- ==== Proof.KernelField.lean ====
/-
  What the first launch leaves: the whole field, every entry the Gumbel variate of its count.
-/
module

public import proofs.«01_k».proof.Proof.KernelBits
public import Idealize.ShloMosaic.Lib.Pipeline.ValueKit
public import Idealize.ShloMosaic.Lib.Pipeline.Covers

@[expose] public section

noncomputable section

open Idealize.ShloMosaic Idealize.ShloMosaic.TcCoe Idealize.SL.Sem

namespace Cert.Proof.Field

open Cert.KernelIdeal Cert.KernelIdeal.Gen

/-- The block of a grid point is the one its two coordinates number. -/
theorem index_eq (t : Fin cfg0.N) : win0_0.index t = ![(grid0.coords t 0).val, (grid0.coords t 1).val] := by
  have h₀ : (grid0.coords t 0).val < 64 := (grid0.coords t 0).isLt
  have h₁ : (grid0.coords t 1).val < 32 := (grid0.coords t 1).isLt
  show ![(BitVec.ofNat 32 (grid0.coords t 0).val).toNat, (BitVec.ofNat 32 (grid0.coords t 1).val).toNat] = _
  rw [BitVec.toNat_ofNat, BitVec.toNat_ofNat, Nat.mod_eq_of_lt (by omega), Nat.mod_eq_of_lt (by omega)]

/-- The blocks cover the field, those at its right edge cut. -/
theorem covers : (cfg0.win 0).Covers :=
  (cfg0.win 0).covers_of_indexMap_surj rfl (by decide) fun β => by
    have hβ₀ : (β 0).val < 64 := (β 0).isLt
    have hβ₁ : (β 1).val < 32 := (β 1).isLt
    refine ⟨fun a => match a with | ⟨0, _⟩ => ⟨(β 0).val, hβ₀⟩ | ⟨1, _⟩ => ⟨(β 1).val, hβ₁⟩, fun a => ?_⟩
    match a with
    | ⟨0, _⟩ =>
      show (BitVec.ofNat 32 (β 0).val).toNat = _
      rw [BitVec.toNat_ofNat, Nat.mod_eq_of_lt (by omega)]; rfl
    | ⟨1, _⟩ =>
      show (BitVec.ofNat 32 (β 1).val).toNat = _
      rw [BitVec.toNat_ofNat, Nat.mod_eq_of_lt (by omega)]; rfl

/-- The field: at row `r` and column `v` the variate of their count. -/
def field (i : S512x100000.Idx) : EReal := gumbel (count (i 0).val (i 1).val)

/-- The block a grid point leaves, at an element. -/
theorem out_eq (i : grid0.Coords) (y : S8x3200.Idx) : out0_0 (F := Ideal) i y
    = gumbel (count ((i 0).val * 8 + (y 0).val) ((i 1).val * 3200 + (y 1).val)) := by
  rw [← Bits.block_eq]
  frame_out

/-- The field after the launch. -/
theorem arr_eq (V : (c : Dev nD) → (b : Ref sig .tc) → Buf (Elt Ideal) ((c : Thread nD τ).loc b)) (c : Dev nD) :
    (dat0 V c).arrAt 0 cfg0.N = field := by
  refine (dat0 V c).arrAt_eq_of_covers 0 _ covers fun t _ y => ?_
  rw [after0_0]
  blk_simp
  rw [out_eq]
  have e₀ : ((win0_0.blk t).view.emb y 0).val = (grid0.coords t 0).val * 8 + (y 0).val := by
    blk_simp [index_eq]
  have e₁ : ((win0_0.blk t).view.emb y 1).val = (grid0.coords t 1).val * 3200 + (y 1).val := by
    blk_simp [index_eq]
  exact congrArg gumbel (congrArg₂ count e₀.symm e₁.symm)

end Cert.Proof.Field

end
-- ==== Proof.FirstMax.lean ====
/-
  The first position at which a finite row of extended reals is greatest, and the two ways the programs find it: a left
  fold over (value, position) pairs, and a maximum followed by the least position holding it.
-/
module

public import Idealize.ShloMosaic.PureOps.Ideal.Laws
public import Idealize.ShloMosaic.Lib.Pointwise

@[expose] public section

noncomputable section

open Idealize.ShloMosaic

namespace Cert.Proof

variable {n : Nat}

/-- `k` is the first position at which `f` is greatest. -/
def IsFirstMax (f : Fin n → EReal) (k : Fin n) : Prop := (∀ j, f j ≤ f k) ∧ ∀ j, j < k → f j < f k

/-- A nonempty row has a first position at which it is greatest. -/
theorem exists_firstMax [NeZero n] (f : Fin n → EReal) : ∃ k, IsFirstMax f k := by
  obtain ⟨m, -, hm⟩ := Finset.exists_max_image Finset.univ f ⟨0, Finset.mem_univ _⟩
  let S := Finset.univ.filter fun j => f j = f m
  have hS : S.Nonempty := ⟨m, by simp [S]⟩
  have hk : f (S.min' hS) = f m := by simpa [S] using S.min'_mem hS
  refine ⟨S.min' hS, fun j => (hm j (Finset.mem_univ _)).trans hk.ge, fun j hj => ?_⟩
  refine lt_of_le_of_ne ((hm j (Finset.mem_univ _)).trans hk.ge) fun h => ?_
  exact absurd (S.min'_le j (by simp [S, h, hk])) (not_le.2 hj)

/-- The first position at which a row is greatest. -/
def firstMax [NeZero n] (f : Fin n → EReal) : Fin n := (exists_firstMax f).choose

/-- It is one. -/
theorem firstMax_spec [NeZero n] (f : Fin n → EReal) : IsFirstMax f (firstMax f) := (exists_firstMax f).choose_spec

/-- A position below 2³¹ read back from its word as a signed number. -/
theorem toInt_ofNat {k : Nat} (h : k < 2147483648) : (BitVec.ofNat 32 k).toInt = k := by
  rw [BitVec.toInt_eq_toNat_of_lt (by simp only [BitVec.toNat_ofNat]; omega), BitVec.toNat_ofNat]
  omega

/-! ## The fold over pairs -/

/-- A left fold ends at `p`, one of its elements, when each step keeps one of its two elements, keeps `p` against any of
    them, and `p` is met. -/
theorem foldl_absorb {α : Type} (op : α → α → α) (p : α) (S : α → Prop)
    (pick : ∀ a b, op a b = a ∨ op a b = b) (left : ∀ q, S q → op p q = p) (right : ∀ q, S q → op q p = p) :
    ∀ (l : List α) (a : α), S a → (∀ q ∈ l, S q) → (a = p ∨ p ∈ l) → l.foldl op a = p
  | [], a, _, _, h => by simpa using h
  | b :: l, a, ha, hl, h => by
    have hb := hl b List.mem_cons_self
    refine foldl_absorb op p S pick left right l (op a b) ?_ (fun q hq => hl q (List.mem_cons_of_mem _ hq)) ?_
    · rcases pick a b with e | e <;> rw [e] <;> assumption
    · rcases h with rfl | h
      · exact .inl (left b hb)
      · rcases List.mem_cons.1 h with rfl | h
        · exact .inl (right a ha)
        · exact .inr h

/-- What `p` wins over: a lesser value, `p` itself, or the same value at a later position. -/
def Below (p q : EReal × BitVec 32) : Prop := q.1 < p.1 ∨ q = p ∨ (q.1 = p.1 ∧ p.2.toInt < q.2.toInt)

/-- One step of the argmax over pairs: the greater value, and of two equal values the lesser position. -/
def better (a b : EReal × BitVec 32) : EReal × BitVec 32 :=
  if b.1 < a.1 ∨ (a.1 = b.1 ∧ a.2.toInt < b.2.toInt) then a else b

/-- A step keeps one of its two pairs. -/
theorem better_pick (a b : EReal × BitVec 32) : better a b = a ∨ better a b = b := by
  unfold better; split <;> simp

/-- `p` is kept against what it wins over, met second. -/
theorem better_left {p q : EReal × BitVec 32} (h : Below p q) : better p q = p := by
  unfold better
  rcases h with h | rfl | ⟨h, h'⟩
  · rw [if_pos (.inl h)]
  · simp
  · rw [if_pos (.inr ⟨h.symm, h'⟩)]

/-- `p` is kept against what it wins over, met first. -/
theorem better_right {p q : EReal × BitVec 32} (h : Below p q) : better q p = p := by
  unfold better
  rcases h with h | rfl | ⟨h, h'⟩
  · rw [if_neg]
    rintro (h' | ⟨h', -⟩)
    · exact lt_asymm h h'
    · exact h.ne h'
  · simp
  · rw [if_neg]
    rintro (h'' | ⟨-, h''⟩)
    · exact h''.ne h.symm
    · exact lt_asymm h' h''

/-- The pair at the first greatest position wins over the pair at every position. -/
theorem below_of_firstMax (hn : n ≤ 2147483648) {f : Fin n → EReal} {k : Fin n} (hk : IsFirstMax f k) (j : Fin n) :
    Below (f k, BitVec.ofNat 32 k) (f j, BitVec.ofNat 32 j) := by
  rcases lt_trichotomy j k with h | rfl | h
  · exact .inl (hk.2 j h)
  · exact .inr (.inl rfl)
  · rcases (hk.1 j).lt_or_eq with h' | h'
    · exact .inl h'
    · refine .inr (.inr ⟨h', ?_⟩)
      show (BitVec.ofNat 32 k).toInt < (BitVec.ofNat 32 j).toInt
      rw [toInt_ofNat (by omega), toInt_ofNat (by omega)]
      exact_mod_cast h

/-- It wins over the pair the fold starts from: the least value and position zero. -/
theorem below_start {f : Fin n → EReal} {k : Fin n} (hk : IsFirstMax f k) :
    Below (f k, BitVec.ofNat 32 k) (⊥, 0#32) := by
  rcases (bot_le (a := f k)).lt_or_eq with h | h
  · exact .inl h
  · refine .inr (.inl ?_)
    have h0 : k.val = 0 := by
      by_contra h0
      have := hk.2 ⟨0, k.pos⟩ (Fin.lt_def.2 (Nat.pos_of_ne_zero h0))
      exact absurd (h ▸ this) not_lt_bot
    rw [← h, h0]

/-- A fold over (value, position) pairs that meets the pairs of a row, in whatever order and however often, ends at the
    first greatest position's pair. -/
theorem foldl_better (hn : n ≤ 2147483648) {f : Fin n → EReal} {k : Fin n} (hk : IsFirstMax f k)
    (l : List (EReal × BitVec 32)) (hl : ∀ q ∈ l, ∃ j, q = (f j, BitVec.ofNat 32 j))
    (hm : (f k, BitVec.ofNat 32 k) ∈ l) : l.foldl better (⊥, 0#32) = (f k, BitVec.ofNat 32 k) := by
  refine foldl_absorb better _ (Below (f k, BitVec.ofNat 32 k)) better_pick (fun _ => better_left) (fun _ => better_right)
    l _ (below_start hk) (fun q hq => ?_) (.inr hm)
  obtain ⟨j, rfl⟩ := hl q hq
  exact below_of_firstMax hn hk j

/-! ## The maximum and the least position holding it -/

/-- The maximum of a row is its value at a greatest position. -/
theorem fold_max_eq {f : Fin n → EReal} {k : Fin n} (hk : IsFirstMax f k) :
    Finset.univ.fold max ⊥ f = f k := by
  refine le_antisymm ?_ ?_
  · exact (Finset.fold_max_le (f k)).2 ⟨bot_le, fun j _ => hk.1 j⟩
  · exact Finset.le_fold_max (f k) |>.2 (.inr ⟨k, Finset.mem_univ _, le_rfl⟩)

/-- The lesser of two words as signed numbers. -/
theorem toInt_minsi (a b : BitVec 32) : (IntOp.minsi a b).toInt = min a.toInt b.toInt := by
  unfold IntOp.minsi
  split
  · rename_i h; rw [BitVec.slt_iff_toInt_lt] at h; exact (min_eq_left h.le).symm
  · rename_i h; rw [BitVec.slt_iff_toInt_lt] at h; exact (min_eq_right (not_lt.1 h)).symm

/-- The least of a set of words, as a signed number, is the least of their numbers. -/
theorem toInt_fold_minsi (s : Finset (Fin n)) (b : BitVec 32) (g : Fin n → BitVec 32) :
    (s.fold IntOp.minsi b g).toInt = s.fold min b.toInt fun j => (g j).toInt := by
  induction s using Finset.cons_induction with
  | empty => rfl
  | cons j s hj ih => rw [Finset.fold_cons, Finset.fold_cons, toInt_minsi, ih]

/-- The least position whose value equals the maximum is the first greatest one. -/
theorem fold_position_eq (hn : n ≤ 2147483647) {f : Fin n → EReal} {k : Fin n} (hk : IsFirstMax f k) :
    Finset.univ.fold IntOp.minsi 2147483647#32
      (fun j : Fin n => if f j = f k then BitVec.ofNat 32 j else 2147483647#32) = BitVec.ofNat 32 k := by
  apply BitVec.eq_of_toInt_eq
  rw [toInt_fold_minsi, toInt_ofNat (k := k.val) (by omega)]
  have ht : (2147483647#32).toInt = 2147483647 := by decide
  have hkn := k.isLt
  refine le_antisymm ?_ ?_
  · refine (Finset.fold_min_le _).2 (.inr ⟨k, Finset.mem_univ _, ?_⟩)
    rw [if_pos rfl, toInt_ofNat (k := k.val) (by omega)]
  · refine (Finset.le_fold_min _).2 ⟨by rw [ht]; omega, fun j _ => ?_⟩
    split
    · rename_i h
      rw [toInt_ofNat (k := j.val) (by omega)]
      by_contra hlt
      exact (hk.2 j (by rw [Fin.lt_def]; omega)).ne h
    · rw [ht]; omega

end Cert.Proof

end
-- ==== Proof.KernelLabels.lean ====
/-
  What one block of the second and of the third launch computes: the label of every row, which is the first position at
  which the row's scores are greatest, and the one-hot rows of the labels.
-/
module

public import proofs.«01_k».proof.Proof.FrameIdeal
public import proofs.«01_k».proof.Proof.FirstMax
public import Idealize.ShloMosaic.Lib.Pointwise

@[expose] public section

noncomputable section

open Idealize.ShloMosaic

namespace Cert.Proof.Labels

open Cert.KernelIdeal Cert.KernelIdeal.Gen

/-- The least number the running maximum starts from. -/
theorem start_eq : Ideal.ofBits .f32 0xFF800000#32 = (⊥ : EReal) := by
  simp [Ideal.ofBits, Ideal.ieee]

/-- A block's labels: for each row, the first position at which the sum of the two blocks' rows is greatest. -/
theorem argmax_eq (u v : S32x100000.Idx → EReal) (y : S32x1.Idx) : k1_pay1 (F := Ideal) u v y
    = BitVec.ofNat 32 (firstMax fun k : Fin 100000 => u (ix2 (y 0) k) + v (ix2 (y 0) k)).val := by
  unfold k1_pay1
  pointwise
  rw [start_eq]
  have hk := firstMax_spec fun k : Fin 100000 => u (ix2 (y 0) k) + v (ix2 (y 0) k)
  rw [fold_max_eq hk]
  exact fold_position_eq (by norm_num) hk

/-- A block of one-hot rows: one at the element whose class is the row's label, zero elsewhere. -/
theorem oneHot_eq (i : grid2.Coords) (l : S16x32.Idx → BitVec 32) (y : S16x32x6400.Idx) : k2_pay1 (F := Ideal) i l y
    = if l (ix2 (y 0) (y 1)) = BitVec.ofNat 32 ((i 0).val * 6400 + (y 2).val) then (1 : EReal) else 0 := by
  unfold k2_pay1
  pointwise
  have h : IntOp.addi (BitVec.ofNat 32 (y 2).val) (Scalar.muli (BitVec.ofNat 32 (i 0).val) 6400#32)
      = BitVec.ofNat 32 ((i 0).val * 6400 + (y 2).val) := by
    apply BitVec.eq_of_toNat_eq
    simp only [IntOp.addi, Scalar.muli, IntOp.muli, BitVec.toNat_add, BitVec.toNat_mul, BitVec.toNat_ofNat]
    omega
  rw [h]
  generalize l (ix2 (y 0) (y 1)) = a
  generalize BitVec.ofNat 32 ((i 0).val * 6400 + (y 2).val) = b
  by_cases hab : a = b
  · subst hab
    simp [IntOp.cmpi, FloatOps.sitofp]
  · have hba : (b == a) = false := beq_eq_false_iff_ne.2 (Ne.symm hab)
    simp [IntOp.cmpi, FloatOps.sitofp, hab, hba]

end Cert.Proof.Labels

end
-- ==== Proof.KernelRows.lean ====
/-
  What the second and the third launch leave: the label of every row of the field, and the one-hot rows of a table of
  labels.
-/
module

public import proofs.«01_k».proof.Proof.KernelLabels
public import Idealize.ShloMosaic.Lib.Pipeline.ValueKit
public import Idealize.ShloMosaic.Lib.Pipeline.Covers

@[expose] public section

noncomputable section

open Idealize.ShloMosaic Idealize.ShloMosaic.TcCoe Idealize.SL.Sem

namespace Cert.Proof.Rows

open Cert.KernelIdeal Cert.KernelIdeal.Gen

variable (V : (c : Dev nD) → (b : Ref sig .tc) → Buf (Elt Ideal) ((c : Thread nD τ).loc b)) (c : Dev nD)

/-! ## The labels -/

/-- The field's block of a grid point: 32 rows. -/
theorem index_field : ∀ t : Fin cfg1.N, win1_0.index t = ![(grid1.coords t 0).val, 0] := by
  decide +kernel

/-- The argument's block is the whole argument. -/
theorem index_arg (t : Fin cfg1.N) : win1_1.index t = ![0, 0] := rfl

/-- The labels' block of a grid point: 32 rows. -/
theorem index_label : ∀ t : Fin cfg1.N, win1_2.index t = ![(grid1.coords t 0).val, 0] := by
  decide +kernel

/-- The label of a row: the first position at which the field's row and the argument's are greatest together, the
    argument's rows taken in turn. -/
def label (g : S512x100000.Idx → EReal) (x : S32x100000.Idx → EReal) (r : Fin 512) : BitVec 32 :=
  BitVec.ofNat 32 (firstMax fun k : Fin 100000 => g (ix2 r k) + x (ix2 ⟨r.val % 32, by omega⟩ k)).val

/-- The labels a grid point leaves, at an element. -/
theorem out_label_eq (u v : S32x100000.Idx → EReal) (y : S32x1.Idx) : out1_2 (F := Ideal) u v y
    = BitVec.ofNat 32 (firstMax fun k : Fin 100000 => u (ix2 (y 0) k) + v (ix2 (y 0) k)).val := by
  rw [← Labels.argmax_eq]
  frame_out

/-- The field's block: its 32 rows. -/
theorem block_field {g : S512x100000.Idx → EReal} (hg : V c main_v0 = g) (t : Fin cfg1.N) (z : S32x100000.Idx)
    (r : Fin 512) (hr : r.val = (grid1.coords t 0).val * 32 + (z 0).val) :
    (iblk1 V c 0 t : S32x100000.Idx → EReal) z = g (ix2 r (z 1)) := by
  rw [← hg]
  blk_simp [iblk1]
  refine congrArg (V c main_v0) ?_
  blk_ext [index_field t]

/-- The argument's block: the argument. -/
theorem block_arg {x : S32x100000.Idx → EReal} (hx : V c main_arg0 = x) (t : Fin cfg1.N) :
    (iblk1 V c 1 t : S32x100000.Idx → EReal) = x := by
  rw [← hx]
  funext z
  blk_simp [iblk1]
  refine congrArg (V c main_arg0) ?_
  blk_ext [index_arg t]

/-- The labels after the launch. -/
theorem labels_eq {g : S512x100000.Idx → EReal} {x : S32x100000.Idx → EReal} (hg : V c main_v0 = g) (hx : V c main_arg0 = x) :
    (dat1 V c).arrAt 2 cfg1.N = fun i : S512x1.Idx => label g x (i 0) := by
  refine (dat1 V c).arrAt_eq_of_covers 2 _ (by decide +kernel) fun t _ y => ?_
  rw [after1_2]
  blk_simp
  have e : ((win1_2.blk t).view.emb y 0).val = (grid1.coords t 0).val * 32 + (y 0).val := by
    blk_simp [index_label]
  have hy : (y 0).val < 32 := (y 0).isLt
  refine (out_label_eq (iblk1 V c 0 t) (iblk1 V c 1 t) y).trans ?_
  rw [block_arg V c hx]
  show _ = label g x ((win1_2.blk t).view.emb y 0)
  unfold label
  refine congrArg (fun f : Fin 100000 → EReal => BitVec.ofNat 32 (firstMax f).val) (funext fun k => congrArg₂ (· + ·) ?_ ?_)
  · exact block_field V c hg t (ix2 (y 0) k) _ e
  · refine congrArg (fun r => x (ix2 r k)) (Fin.ext ?_)
    show (y 0).val = ((win1_2.blk t).view.emb y 0).val % 32
    omega

/-! ## The one-hot rows -/

/-- The labels' block is the whole table. -/
theorem index_table (t : Fin cfg2.N) : win2_0.index t = ![0, 0] := rfl

/-- The result's block of a grid point: 6400 classes of every row. -/
theorem index_hot : ∀ t : Fin cfg2.N, win2_1.index t = ![0, 0, (grid2.coords t 0).val] := by
  decide +kernel

/-- One-hot rows: one where the class is the row's label, zero elsewhere. -/
def hot (l : S16x32.Idx → BitVec 32) (i : S16x32x100000.Idx) : EReal :=
  if l (ix2 (i 0) (i 1)) = BitVec.ofNat 32 (i 2).val then 1 else 0

/-- The rows a grid point leaves, at an element. -/
theorem out_hot_eq (i : grid2.Coords) (l : S16x32.Idx → BitVec 32) (y : S16x32x6400.Idx) : out2_1 (F := Ideal) i l y
    = if l (ix2 (y 0) (y 1)) = BitVec.ofNat 32 ((i 0).val * 6400 + (y 2).val) then (1 : EReal) else 0 := by
  rw [← Labels.oneHot_eq]
  frame_out

/-- The labels' block: the table. -/
theorem block_table {l : S16x32.Idx → BitVec 32} (hl : V c main_call0_v1 = l) (t : Fin cfg2.N) :
    (iblk2 V c 0 t : S16x32.Idx → BitVec 32) = l := by
  rw [← hl]
  funext z
  blk_simp [iblk2]
  refine congrArg (V c main_call0_v1) ?_
  blk_ext [index_table t]

/-- The rows after the launch. -/
theorem hot_eq {l : S16x32.Idx → BitVec 32} (hl : V c main_call0_v1 = l) : (dat2 V c).arrAt 1 cfg2.N = hot l := by
  refine (dat2 V c).arrAt_eq_of_covers 1 _ ?_ fun t _ y => ?_
  · decide +kernel
  rw [after2_1]
  blk_simp
  have e₀ : ((win2_1.blk t).view.emb y 0).val = (y 0).val := by
    blk_simp [index_hot]
  have e₁ : ((win2_1.blk t).view.emb y 1).val = (y 1).val := by
    blk_simp [index_hot]
  have e₂ : ((win2_1.blk t).view.emb y 2).val = (grid2.coords t 0).val * 6400 + (y 2).val := by
    blk_simp [index_hot]
  rw [block_table V c hl]
  refine (out_hot_eq (grid2.coords t) l ((cfg2.win 1).xinj (cfg2.grid.coords t) y)).trans ?_
  rw [hot, e₂]
  refine congrArg (fun a => if l a = _ then (1 : EReal) else 0) ?_
  funext a
  match a with
  | ⟨0, _⟩ => exact Fin.ext e₀.symm
  | ⟨1, _⟩ => exact Fin.ext e₁.symm

end Cert.Proof.Rows

end
-- ==== Proof.RefLine.lean ====
/-
  The reference's operations as one list: `main` runs them one after the other, the bodies of the functions it calls in
  their places, and ends with every buffer at the fold of their results.
-/
module

public import proofs.«01_k».proof.Proof.Gen.ReferenceIdeal
public import Idealize.ShloMosaic.Lib.Claim
public import Idealize.ShloMosaic.PureOps.Ideal.Laws

@[expose] public section

set_option maxRecDepth 65536

noncomputable section

open Idealize.ShloMosaic Idealize.ShloMosaic.TcCoe Idealize.SL.Sem Idealize.ShloMosaic.StableHlo

namespace Cert.Proof.Reference

open Cert.ReferenceIdeal

/-- Contents of all of the reference's buffers. -/
abbrev Vals := Valuation τ sig (Elt Ideal)

/-- A line followed by a line is the line of both lists of operations. -/
theorem isSeq_append {nD : Nat} {τ : Topo} {sig : RefSig} {Val : EltTy → Type} {Λ : Labels}
    {p q : Prog (TpuEff nD τ sig Val Λ .tc) PUnit} {a b : List (HloOp τ sig Val)}
    (hp : IsSeq p a) (hq : IsSeq q b) : IsSeq (p >>= fun _ => q) (a ++ b) := by
  unfold IsSeq at *
  rw [seq_append, hp, hq]

/-- The operations of threefry's statements 1 to 60. -/
def part0 : {ops // IsSeq (fn_threefry2x32.body_part0 (F := Ideal) main_call0.v5 main_call0.v7 main_call0.v22
    main_call0.v21 main_call0_call0) ops} := by
  apply Subtype.mk; unfold fn_threefry2x32.body_part0; hlo_seq

/-- The operations of threefry's statements 61 to 120. -/
def part1 : {ops // IsSeq (fn_threefry2x32.body_part1 (F := Ideal) main_call0.v5 main_call0.v7 main_call0.v22
    main_call0.v21 main_call0_call0) ops} := by
  apply Subtype.mk; unfold fn_threefry2x32.body_part1; hlo_seq

/-- The operations of threefry's statements 121 to 180. -/
def part2 : {ops // IsSeq (fn_threefry2x32.body_part2 (F := Ideal) main_call0.v5 main_call0.v7 main_call0.v22
    main_call0.v21 main_call0_call0) ops} := by
  apply Subtype.mk; unfold fn_threefry2x32.body_part2; hlo_seq

/-- The operations of threefry's statements 181 to 223. -/
def part3 : {ops // IsSeq (fn_threefry2x32.body_part3 (F := Ideal) main_call0.v5 main_call0.v7 main_call0.v22
    main_call0.v21 main_call0_call0) ops} := by
  apply Subtype.mk; unfold fn_threefry2x32.body_part3; hlo_seq

/-- The operations of threefry's hash. -/
def hash : {ops // IsSeq (fn_threefry2x32.body (F := Ideal) main_call0.v5 main_call0.v7 main_call0.v22
    main_call0.v21 main_call0_call0) ops} := by
  apply Subtype.mk; unfold fn_threefry2x32.body
  exact isSeq_append part0.2 (isSeq_append part1.2 (isSeq_append part2.2 part3.2))

/-- The operations of the uniform variates. -/
def uniform : {ops // IsSeq (fn_uniform.body (F := Ideal) (.of main_v6) (.of main_cst) (.of main_cst_2) main_call0) ops} := by
  apply Subtype.mk; unfold fn_uniform.body
  iterate 27 apply IsSeq.cons
  apply isSeq_append hash.2
  hlo_seq

/-- The operations of the row-wise first greatest entry. -/
def argmax : {ops // IsSeq (fn_argmax.body (F := Ideal) (.of main_v16) main_call1) ops} := by
  apply Subtype.mk; unfold fn_argmax.body; hlo_seq

/-- The operations of the one-hot rows. -/
def oneHot : {ops // IsSeq (fn_one_hot.body (F := Ideal) (.of main_v17) main_call2) ops} := by
  apply Subtype.mk; unfold fn_one_hot.body; hlo_seq

/-- The reference's operations. -/
def line : {ops // ∀ d, IsSeq (main (F := Ideal) d) ops} := by
  apply Subtype.mk; intro d; unfold main
  iterate 12 apply IsSeq.cons
  apply isSeq_append uniform.2
  iterate 10 apply IsSeq.cons
  apply isSeq_append argmax.2
  apply isSeq_append oneHot.2
  exact IsSeq.nil

/-- A line in two pieces. -/
theorem after_split (ops : List (HloOp τ sig (Elt Ideal))) (n : Nat) (V : Vals) :
    after ops V = after (ops.drop n) (after (ops.take n) V) := by
  induction ops generalizing n V with
  | nil => simp
  | cons op ops ih => cases n with
    | zero => simp
    | succ n => simp only [List.take_succ_cons, List.drop_succ_cons, after_cons]; exact ih n _

/-- The reference runs to the fold of its operations' results over its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after line.1 (launchContents m d) (Proc.devRef .tc b) := by
  apply run_hlo _ _ line.2 (by decide) (by decide)
  · simp [line, uniform, hash, part0, part1, part2, part3, argmax, oneHot]
  · intro op h
    simp only [line, uniform, hash, part0, part1, part2, part3, argmax, oneHot, List.cons_append, List.nil_append] at h
    (repeat (cases h with | head => rfl | tail _ h => ?_)); exact nomatch h

end Cert.Proof.Reference

end
-- ==== Proof.RefHash.lean ====
/-
  What the reference's hash computes, one group of four rounds after another: the list of its operations is cut after the
  set-up and after each group's key injection, and each piece takes the two words of a count to the two words after it.
-/
module

public import proofs.«01_k».proof.Proof.RefLine
public import proofs.«01_k».proof.Proof.Threefry
public import Idealize.ShloMosaic.Lib.Pipeline.Frame

@[expose] public section

set_option maxRecDepth 65536

noncomputable section

open Idealize.ShloMosaic Idealize.ShloMosaic.TcCoe Idealize.SL.Sem Idealize.ShloMosaic.StableHlo

namespace Cert.Proof.Reference

open Cert.ReferenceIdeal

/-- A pair of words at every entry of the result. -/
abbrev Words := S16x32x100000.Idx → BitVec 32 × BitVec 32

/-- What the later operations still read of the contents before the hash: the argument, the two bounds of the uniform
    variates and the two words of the key. -/
structure Live (x : S32x100000.Idx → EReal) (V : Vals) : Prop where
  arg : V (Proc.devRef .tc main_arg0) = x
  lo : V (Proc.devRef .tc main_call0_v2) = fun _ => Ideal.ofBits .f32 0x00000000#32
  hi : V (Proc.devRef .tc main_call0_v3) = fun _ => Ideal.ofBits .f32 0x3F800000#32
  k0 : V (Proc.devRef .tc main_call0_v5) = fun _ => 0#32
  k1 : V (Proc.devRef .tc main_call0_v7) = fun _ => 1#32

/-- The same inside the hash, with the parity word of the key. -/
structure Keys (x : S32x100000.Idx → EReal) (V : Vals) : Prop extends Live x V where
  k2 : V (Proc.devRef .tc main_call0_call0_v1) = fun _ => 466688987#32

/-- The operations of the hash's set-up: the parity word, and the key added onto the two words of the count. -/
def setUp : List (HloOp τ sig (Elt Ideal)) := part0.1.take 7

/-- The operations of group 0 of the hash. -/
def g0 : List (HloOp τ sig (Elt Ideal)) := (part0.1.drop 7).take 43

/-- The operations of group 1 of the hash. -/
def g1 : List (HloOp τ sig (Elt Ideal)) := part0.1.drop 50 ++ part1.1.take 33

/-- The operations of group 2 of the hash. -/
def g2 : List (HloOp τ sig (Elt Ideal)) := part1.1.drop 33 ++ part2.1.take 16

/-- The operations of group 3 of the hash. -/
def g3 : List (HloOp τ sig (Elt Ideal)) := (part2.1.drop 16).take 43

/-- The operations of group 4 of the hash. -/
def g4 : List (HloOp τ sig (Elt Ideal)) := part2.1.drop 59 ++ part3.1

/-- The hash is its set-up and its five groups. -/
theorem hash_eq : hash.1 = setUp ++ (g0 ++ (g1 ++ (g2 ++ (g3 ++ g4)))) := rfl

/-- The set-up leaves what is still read, and the parity word. -/
theorem setUp_keys {x : S32x100000.Idx → EReal} {V : Vals} (live : Live x V) : Keys x (after setUp V) := by
  simp only [setUp, part0, part1, part2, part3, List.take_succ_cons, List.take_zero, List.drop_succ_cons, List.drop_zero, List.cons_append, List.nil_append]
  refine ⟨⟨?_, ?_, ?_, ?_, ?_⟩, ?_⟩ <;> after_results_simp
  · exact live.arg
  · exact live.lo
  · exact live.hi
  · exact live.k0
  · exact live.k1
  · simp only [live.k0, live.k1, TRef.ofBuf_toBuf]
    funext i
    exact (by decide : (0#32 ^^^ 1#32) ^^^ 466688986#32 = 466688987#32)

/-- The set-up adds the key onto the two words of the count. -/
theorem setUp_words {x : S32x100000.Idx → EReal} {V : Vals} (live : Live x V) {p : Words}
    (ha : V (Proc.devRef .tc main_call0_v22) = fun i => (p i).1)
    (hb : V (Proc.devRef .tc main_call0_v21) = fun i => (p i).2) :
    after setUp V (Proc.devRef .tc main_call0_call0_v3) = (fun i => (p i).1 + 0#32) ∧
    after setUp V (Proc.devRef .tc main_call0_call0_v5) = (fun i => (p i).2 + 1#32) := by
  simp only [setUp, part0, part1, part2, part3, List.take_succ_cons, List.take_zero, List.drop_succ_cons, List.drop_zero, List.cons_append, List.nil_append]
  constructor <;> after_results_simp <;> simp only [live.k0, live.k1, ha, hb, TRef.ofBuf_toBuf] <;> rfl

/-- Group 0 leaves what is still read. -/
theorem g0_keys {x : S32x100000.Idx → EReal} {V : Vals} (keys : Keys x V) : Keys x (after g0 V) := by
  simp only [g0, part0, part1, part2, part3, List.take_succ_cons, List.take_zero, List.drop_succ_cons, List.drop_zero, List.cons_append, List.nil_append]
  refine ⟨⟨?_, ?_, ?_, ?_, ?_⟩, ?_⟩ <;> after_results_simp
  exacts [keys.arg, keys.lo, keys.hi, keys.k0, keys.k1, keys.k2]

/-- Group 0: four rounds and the injection of two words of the key. -/
theorem g0_words {x : S32x100000.Idx → EReal} {V : Vals} (keys : Keys x V) {p : Words}
    (ha : V (Proc.devRef .tc main_call0_call0_v3) = fun i => (p i).1)
    (hb : V (Proc.devRef .tc main_call0_call0_v5) = fun i => (p i).2) :
    after g0 V (Proc.devRef .tc main_call0_call0_v35) = (fun i => (inject 1#32 466688987#32 1 (rounds₁ (p i))).1) ∧
    after g0 V (Proc.devRef .tc main_call0_call0_v39) = (fun i => (inject 1#32 466688987#32 1 (rounds₁ (p i))).2) := by
  simp only [g0, part0, part1, part2, part3, List.take_succ_cons, List.take_zero, List.drop_succ_cons, List.drop_zero, List.cons_append, List.nil_append]
  constructor <;> after_results_simp <;> simp only [keys.k1, keys.k2, ha, hb, TRef.ofBuf_toBuf] <;> funext i <;> rfl

/-- Group 1 leaves what is still read. -/
theorem g1_keys {x : S32x100000.Idx → EReal} {V : Vals} (keys : Keys x V) : Keys x (after g1 V) := by
  simp only [g1, part0, part1, part2, part3, List.take_succ_cons, List.take_zero, List.drop_succ_cons, List.drop_zero, List.cons_append, List.nil_append]
  refine ⟨⟨?_, ?_, ?_, ?_, ?_⟩, ?_⟩ <;> after_results_simp
  exacts [keys.arg, keys.lo, keys.hi, keys.k0, keys.k1, keys.k2]

/-- Group 1: four rounds and the injection of two words of the key. -/
theorem g1_words {x : S32x100000.Idx → EReal} {V : Vals} (keys : Keys x V) {p : Words}
    (ha : V (Proc.devRef .tc main_call0_call0_v35) = fun i => (p i).1)
    (hb : V (Proc.devRef .tc main_call0_call0_v39) = fun i => (p i).2) :
    after g1 V (Proc.devRef .tc main_call0_call0_v69) = (fun i => (inject 466688987#32 0#32 2 (rounds₂ (p i))).1) ∧
    after g1 V (Proc.devRef .tc main_call0_call0_v73) = (fun i => (inject 466688987#32 0#32 2 (rounds₂ (p i))).2) := by
  simp only [g1, part0, part1, part2, part3, List.take_succ_cons, List.take_zero, List.drop_succ_cons, List.drop_zero, List.cons_append, List.nil_append]
  constructor <;> after_results_simp <;> simp only [keys.k2, keys.k0, ha, hb, TRef.ofBuf_toBuf] <;> funext i <;> rfl

/-- Group 2 leaves what is still read. -/
theorem g2_keys {x : S32x100000.Idx → EReal} {V : Vals} (keys : Keys x V) : Keys x (after g2 V) := by
  simp only [g2, part0, part1, part2, part3, List.take_succ_cons, List.take_zero, List.drop_succ_cons, List.drop_zero, List.cons_append, List.nil_append]
  refine ⟨⟨?_, ?_, ?_, ?_, ?_⟩, ?_⟩ <;> after_results_simp
  exacts [keys.arg, keys.lo, keys.hi, keys.k0, keys.k1, keys.k2]

/-- Group 2: four rounds and the injection of two words of the key. -/
theorem g2_words {x : S32x100000.Idx → EReal} {V : Vals} (keys : Keys x V) {p : Words}
    (ha : V (Proc.devRef .tc main_call0_call0_v69) = fun i => (p i).1)
    (hb : V (Proc.devRef .tc main_call0_call0_v73) = fun i => (p i).2) :
    after g2 V (Proc.devRef .tc main_call0_call0_v103) = (fun i => (inject 0#32 1#32 3 (rounds₁ (p i))).1) ∧
    after g2 V (Proc.devRef .tc main_call0_call0_v107) = (fun i => (inject 0#32 1#32 3 (rounds₁ (p i))).2) := by
  simp only [g2, part0, part1, part2, part3, List.take_succ_cons, List.take_zero, List.drop_succ_cons, List.drop_zero, List.cons_append, List.nil_append]
  constructor <;> after_results_simp <;> simp only [keys.k0, keys.k1, ha, hb, TRef.ofBuf_toBuf] <;> funext i <;> rfl

/-- Group 3 leaves what is still read. -/
theorem g3_keys {x : S32x100000.Idx → EReal} {V : Vals} (keys : Keys x V) : Keys x (after g3 V) := by
  simp only [g3, part0, part1, part2, part3, List.take_succ_cons, List.take_zero, List.drop_succ_cons, List.drop_zero, List.cons_append, List.nil_append]
  refine ⟨⟨?_, ?_, ?_, ?_, ?_⟩, ?_⟩ <;> after_results_simp
  exacts [keys.arg, keys.lo, keys.hi, keys.k0, keys.k1, keys.k2]

/-- Group 3: four rounds and the injection of two words of the key. -/
theorem g3_words {x : S32x100000.Idx → EReal} {V : Vals} (keys : Keys x V) {p : Words}
    (ha : V (Proc.devRef .tc main_call0_call0_v103) = fun i => (p i).1)
    (hb : V (Proc.devRef .tc main_call0_call0_v107) = fun i => (p i).2) :
    after g3 V (Proc.devRef .tc main_call0_call0_v137) = (fun i => (inject 1#32 466688987#32 4 (rounds₂ (p i))).1) ∧
    after g3 V (Proc.devRef .tc main_call0_call0_v141) = (fun i => (inject 1#32 466688987#32 4 (rounds₂ (p i))).2) := by
  simp only [g3, part0, part1, part2, part3, List.take_succ_cons, List.take_zero, List.drop_succ_cons, List.drop_zero, List.cons_append, List.nil_append]
  constructor <;> after_results_simp <;> simp only [keys.k1, keys.k2, ha, hb, TRef.ofBuf_toBuf] <;> funext i <;> rfl

/-- Group 4 leaves what is still read. -/
theorem g4_keys {x : S32x100000.Idx → EReal} {V : Vals} (keys : Keys x V) : Keys x (after g4 V) := by
  simp only [g4, part0, part1, part2, part3, List.take_succ_cons, List.take_zero, List.drop_succ_cons, List.drop_zero, List.cons_append, List.nil_append]
  refine ⟨⟨?_, ?_, ?_, ?_, ?_⟩, ?_⟩ <;> after_results_simp
  exacts [keys.arg, keys.lo, keys.hi, keys.k0, keys.k1, keys.k2]

/-- Group 4: four rounds and the injection of two words of the key. -/
theorem g4_words {x : S32x100000.Idx → EReal} {V : Vals} (keys : Keys x V) {p : Words}
    (ha : V (Proc.devRef .tc main_call0_call0_v137) = fun i => (p i).1)
    (hb : V (Proc.devRef .tc main_call0_call0_v141) = fun i => (p i).2) :
    after g4 V (Proc.devRef .tc main_call0_v23_0) = (fun i => (inject 466688987#32 0#32 5 (rounds₁ (p i))).1) ∧
    after g4 V (Proc.devRef .tc main_call0_v23_1) = (fun i => (inject 466688987#32 0#32 5 (rounds₁ (p i))).2) := by
  simp only [g4, part0, part1, part2, part3, List.take_succ_cons, List.take_zero, List.drop_succ_cons, List.drop_zero, List.cons_append, List.nil_append]
  constructor <;> after_results_simp <;> simp only [keys.k2, keys.k0, ha, hb, TRef.ofBuf_toBuf] <;> funext i <;> rfl

/-- The hash leaves what is still read, and the two words of the hash of the count at every entry. -/
theorem hash_words {x : S32x100000.Idx → EReal} {V : Vals} (live : Live x V) {p : Words}
    (ha : V (Proc.devRef .tc main_call0_v22) = fun i => (p i).1)
    (hb : V (Proc.devRef .tc main_call0_v21) = fun i => (p i).2) :
    Keys x (after hash.1 V) ∧
    after hash.1 V (Proc.devRef .tc main_call0_v23_0) = (fun i => (threefry 0 1 466688987 (p i)).1) ∧
    after hash.1 V (Proc.devRef .tc main_call0_v23_1) = (fun i => (threefry 0 1 466688987 (p i)).2) := by
  rw [hash_eq]
  simp only [after_append]
  have k := setUp_keys live
  have w := setUp_words live ha hb
  have k0 := g0_keys k
  have w0 := g0_words k (p := fun i => ((p i).1 + 0#32, (p i).2 + 1#32)) w.1 w.2
  have k1 := g1_keys k0
  have w1 := g1_words k0 (p := fun i => inject 1#32 466688987#32 1 (rounds₁ ((p i).1 + 0#32, (p i).2 + 1#32))) w0.1 w0.2
  have k2 := g2_keys k1
  have w2 := g2_words k1 (p := fun i => inject 466688987#32 0#32 2 (rounds₂ (inject 1#32 466688987#32 1 (rounds₁ ((p i).1 + 0#32, (p i).2 + 1#32))))) w1.1 w1.2
  have k3 := g3_keys k2
  have w3 := g3_words k2 (p := fun i => inject 0#32 1#32 3 (rounds₁ (inject 466688987#32 0#32 2 (rounds₂ (inject 1#32 466688987#32 1 (rounds₁ ((p i).1 + 0#32, (p i).2 + 1#32))))))) w2.1 w2.2
  have k4 := g4_keys k3
  have w4 := g4_words k3 (p := fun i => inject 1#32 466688987#32 4 (rounds₂ (inject 0#32 1#32 3 (rounds₁ (inject 466688987#32 0#32 2 (rounds₂ (inject 1#32 466688987#32 1 (rounds₁ ((p i).1 + 0#32, (p i).2 + 1#32))))))))) w3.1 w3.2
  exact ⟨k4, w4.1, w4.2⟩

end Cert.Proof.Reference

end
-- ==== Proof.RefScores.lean ====
/-
  What the reference computes before its argmax: the count of every entry, the uniform and the Gumbel variate of the
  count's hash, and the sum with the argument.
-/
module

public import proofs.«01_k».proof.Proof.RefHash
public import Idealize.ShloMosaic.Lib.Pointwise

@[expose] public section

set_option maxRecDepth 65536

noncomputable section

open Idealize.ShloMosaic Idealize.ShloMosaic.TcCoe Idealize.SL.Sem Idealize.ShloMosaic.StableHlo

namespace Cert.Proof.Reference

open Cert.ReferenceIdeal

/-- The operations before the hash: the key, the bounds of the uniform variates and the counts. -/
def before : List (HloOp τ sig (Elt Ideal)) := line.1.take 39

/-- The operations of the uniform variates after the hash. -/
def variates : List (HloOp τ sig (Elt Ideal)) := (uniform.1.drop 27).drop 222

/-- The operations between the uniform variates and the argmax. -/
def scores : List (HloOp τ sig (Elt Ideal)) := (line.1.drop 279).take 10

/-- The reference's operations in their stages. -/
theorem line_eq : line.1 = before ++ (hash.1 ++ (variates ++ (scores ++ (argmax.1 ++ oneHot.1)))) := rfl

/-- The count of an entry. -/
def countAt (i : S16x32x100000.Idx) : BitVec 32 := count ((i 0).val * 32 + (i 1).val) (i 2).val

/-- The low word of the 64-bit count is the count of the entry's row and column. -/
theorem count_low (a b c : Nat) :
    (3200000#64 * BitVec.ofNat 64 a + 100000#64 * BitVec.ofNat 64 b + 1#64 * BitVec.ofNat 64 c).setWidth 32
      = count (a * 32 + b) c := by
  apply BitVec.eq_of_toNat_eq
  simp only [count, BitVec.toNat_setWidth, BitVec.toNat_add, BitVec.toNat_mul, BitVec.toNat_ofNat]
  omega

/-- The high word of the 64-bit count is zero: the entries are fewer than 2³². -/
theorem count_high {a b c : Nat} (ha : a < 16) (hb : b < 32) (hc : c < 100000) :
    ((3200000#64 * BitVec.ofNat 64 a + 100000#64 * BitVec.ofNat 64 b + 1#64 * BitVec.ofNat 64 c) >>> 32).setWidth 32
      = 0#32 := by
  have h : (3200000#64 * BitVec.ofNat 64 a + 100000#64 * BitVec.ofNat 64 b + 1#64 * BitVec.ofNat 64 c).toNat
      = 3200000 * a + 100000 * b + c := by
    simp only [BitVec.toNat_add, BitVec.toNat_mul, BitVec.toNat_ofNat]
    omega
  apply BitVec.eq_of_toNat_eq
  rw [BitVec.toNat_setWidth, BitVec.toNat_ushiftRight, h, Nat.shiftRight_eq_div_pow, Nat.div_eq_of_lt (by omega)]
  rfl

/-- The two words of the key, each read out of the array of both. -/
theorem key_words {a b : S1.Idx → BitVec 32} (ha : a = fun _ => 0#32) (hb : b = fun _ => 1#32) :
    shapeCast S_ (extractStridedSlice S1 ![0] (concatenate S2 0 [⟨S1, a⟩, ⟨S1, b⟩] Gen.concatenates_S1_S1_S2_d0)
      Gen.slices_S2_S1_0) Gen.shapeCasts_S1_S_ = (fun _ => 0#32) ∧
    shapeCast S_ (extractStridedSlice S1 ![1] (concatenate S2 0 [⟨S1, a⟩, ⟨S1, b⟩] Gen.concatenates_S1_S1_S2_d0)
      Gen.slices_S2_S1_1) Gen.shapeCasts_S1_S_ = (fun _ => 1#32) := by
  subst ha hb
  have one (k k' : S1.Idx) : k = k' := by
    funext a
    have ha : a = 0 := Fin.ext (Nat.lt_one_iff.1 a.isLt)
    subst ha
    exact Fin.ext ((Nat.lt_one_iff.1 (k 0).isLt).trans (Nat.lt_one_iff.1 (k' 0).isLt).symm)
  constructor <;> funext i <;> simp only [shapeCast] <;> rw [one (Shape.reshapeEquiv _ i) (ix1 (0 : Fin 1))] <;> rfl

/-- Before the hash: the key is (0, 1), the bounds 0 and 1, and the counts' two words are zero and the count. -/
theorem before_live {x : S32x100000.Idx → EReal} {V : Vals} (hx : V (Proc.devRef .tc main_arg0) = x) :
    Live x (after before V) ∧
    after before V (Proc.devRef .tc main_call0_v22) = (fun _ => 0#32) ∧
    after before V (Proc.devRef .tc main_call0_v21) = countAt := by
  simp only [before, line, uniform, List.take_succ_cons, List.take_zero, List.cons_append]
  refine ⟨⟨?_, ?_, ?_, ?_, ?_⟩, ?_, ?_⟩ <;> after_results_simp
  · exact hx
  · rfl
  · rfl
  · refine (key_words (a := _) (b := _) ?_ ?_).1 <;> after_results_simp <;> funext i
    exacts [(by decide : 1#32 >>> 32 = 0#32), (by decide : 1#32 &&& 4294967295#32 = 1#32)]
  · refine (key_words (a := _) (b := _) ?_ ?_).2 <;> after_results_simp <;> funext i
    exacts [(by decide : 1#32 >>> 32 = 0#32), (by decide : 1#32 &&& 4294967295#32 = 1#32)]
  · simp only [TRef.ofBuf_toBuf]
    funext i
    exact count_high (i 0).isLt (i 1).isLt (i 2).isLt
  · simp only [TRef.ofBuf_toBuf]
    funext i
    exact count_low _ _ _

/-- Kept between the bounds 0 and 1 and at the least normal number or above, a variate is kept at the least normal number
    or above: the other steps change nothing. -/
theorem keep_unit (u : EReal) :
    max (max (Ideal.ofBits .f32 0x00000000#32) (u * (Ideal.ofBits .f32 0x3F800000#32 - Ideal.ofBits .f32 0x00000000#32)
      + Ideal.ofBits .f32 0x00000000#32)) (Ideal.ofBits .f32 0x00800000#32) = max (Ideal.ofBits .f32 0x00800000#32) u := by
  have h0 : Ideal.ofBits .f32 0x00000000#32 = 0 := Ideal.ofBits_zero_f32
  have h1 : Ideal.ofBits .f32 0x3F800000#32 = 1 := by
    simp [Ideal.ofBits, Ideal.ieee, -EReal.coe_mul]; norm_num
  have ht : (0 : EReal) ≤ Ideal.ofBits .f32 0x00800000#32 := by
    simp [Ideal.ofBits, Ideal.ieee, -EReal.coe_mul]
  rw [h0, h1, sub_zero, mul_one, add_zero, max_comm, ← max_assoc, max_eq_left ht]

/-- The score of an entry: the Gumbel variate of its count plus the argument at its row and column. -/
def score (x : S32x100000.Idx → EReal) (i : S16x32x100000.Idx) : EReal := gumbel (countAt i) + x (ix2 (i 1) (i 2))

/-- After the hash: the uniform variates at every entry, and the argument as it was. -/
theorem variates_unit {x : S32x100000.Idx → EReal} {V : Vals} (keys : Keys x V) {p : Words}
    (ha : V (Proc.devRef .tc main_call0_v23_0) = fun i => (p i).1)
    (hb : V (Proc.devRef .tc main_call0_v23_1) = fun i => (p i).2) :
    after variates V (Proc.devRef .tc main_arg0) = x ∧
    after variates V (Proc.devRef .tc main_v7) = fun i => max (Ideal.ofBits .f32 0x00000000#32)
      (unit ((p i).1 ^^^ (p i).2) * (Ideal.ofBits .f32 0x3F800000#32 - Ideal.ofBits .f32 0x00000000#32)
        + Ideal.ofBits .f32 0x00000000#32) := by
  simp only [variates, uniform, hash, part0, part1, part2, part3, List.drop_succ_cons, List.drop_zero, List.cons_append,
    List.nil_append]
  constructor <;> after_results_simp
  · exact keys.arg
  · simp only [keys.lo, keys.hi, ha, hb, TRef.ofBuf_toBuf]
    funext i
    rfl

/-- The argument spread over the samples, read at an entry. -/
theorem broadcast_arg (x : S32x100000.Idx → EReal) (i : S16x32x100000.Idx) :
    broadcastInDim S16x32x100000 ![0, 1, 2] Gen.bcast_S1x32x100000_S16x32x100000_0_1_2
      (broadcastInDim S1x32x100000 ![1, 2] Gen.bcast_S32x100000_S1x32x100000_1_2 x) i = x (ix2 (i 1) (i 2)) := by
  pointwise

/-- Before the argmax: the two logarithms of the variates `w`, kept at the least normal number or above, plus the argument. -/
theorem scores_logs {x : S32x100000.Idx → EReal} {w : S16x32x100000.Idx → EReal} {V : Vals}
    (hx : V (Proc.devRef .tc main_arg0) = x) (hu : V (Proc.devRef .tc main_v7) = w) :
    after scores V (Proc.devRef .tc main_arg0) = x ∧
    after scores V (Proc.devRef .tc main_v16) = addf (φ := .f32) (F := Ideal)
      (Host.negf (Host.log (Host.negf (Host.log (maximumf w (broadcastInDim S16x32x100000 ![] Gen.bcast_S_S16x32x100000
        (constant S_ .f32 0x00800000#32)))))))
      (broadcastInDim S16x32x100000 ![0, 1, 2] Gen.bcast_S1x32x100000_S16x32x100000_0_1_2
        (broadcastInDim S1x32x100000 ![1, 2] Gen.bcast_S32x100000_S1x32x100000_1_2 x)) := by
  simp only [scores, line, uniform, hash, part0, part1, part2, part3, List.drop_succ_cons, List.drop_zero,
    List.take_succ_cons, List.take_zero, List.cons_append, List.nil_append]
  constructor <;> after_results_simp
  · exact hx
  · simp only [hx, hu]

/-- The two logarithms of a uniform variate between its bounds are the Gumbel variate. -/
theorem logs_apply (x : S32x100000.Idx → EReal) (w : S16x32x100000.Idx → EReal) (i : S16x32x100000.Idx) :
    addf (φ := .f32) (F := Ideal)
      (Host.negf (Host.log (Host.negf (Host.log (maximumf w (broadcastInDim S16x32x100000 ![] Gen.bcast_S_S16x32x100000
        (constant S_ .f32 0x00800000#32)))))))
      (broadcastInDim S16x32x100000 ![0, 1, 2] Gen.bcast_S1x32x100000_S16x32x100000_0_1_2
        (broadcastInDim S1x32x100000 ![1, 2] Gen.bcast_S32x100000_S1x32x100000_1_2 x)) i =
    -Ideal.log (-Ideal.log (max (w i) (Ideal.ofBits .f32 0x00800000#32))) + x (ix2 (i 1) (i 2)) := by
  rw [← broadcast_arg x i]
  rfl

/-- Before the argmax: the scores. -/
theorem scores_score {x : S32x100000.Idx → EReal} {V : Vals} (hx : V (Proc.devRef .tc main_arg0) = x)
    (hu : V (Proc.devRef .tc main_v7) = fun i => max (Ideal.ofBits .f32 0x00000000#32)
      (unit (word (countAt i)) * (Ideal.ofBits .f32 0x3F800000#32 - Ideal.ofBits .f32 0x00000000#32)
        + Ideal.ofBits .f32 0x00000000#32)) :
    after scores V (Proc.devRef .tc main_arg0) = x ∧ after scores V (Proc.devRef .tc main_v16) = score x := by
  refine ⟨(scores_logs hx hu).1, (scores_logs hx hu).2.trans (funext fun i => ?_)⟩
  rw [logs_apply, keep_unit, score, gumbel]

/-- From the launch to the argmax: the argument as it was and the scores. -/
theorem upto_scores {x : S32x100000.Idx → EReal} {V : Vals} (hx : V (Proc.devRef .tc main_arg0) = x) :
    after scores (after variates (after hash.1 (after before V))) (Proc.devRef .tc main_arg0) = x ∧
    after scores (after variates (after hash.1 (after before V))) (Proc.devRef .tc main_v16) = score x := by
  obtain ⟨live, hhi, hlo⟩ := before_live hx
  obtain ⟨keys, ha, hb⟩ := hash_words live (p := fun i => (0#32, countAt i)) hhi hlo
  obtain ⟨hx', hu⟩ := variates_unit keys (p := fun i => threefry 0 1 466688987 (0#32, countAt i)) ha hb
  exact scores_score hx' hu

end Cert.Proof.Reference

end
-- ==== Proof.RefValue.lean ====
/-
  What the reference leaves: each row's one at the first position at which the row's scores are greatest.
-/
module

public import proofs.«01_k».proof.Proof.RefScores
public import proofs.«01_k».proof.Proof.FirstMax

@[expose] public section

set_option maxRecDepth 65536

noncomputable section

open Idealize.ShloMosaic Idealize.ShloMosaic.TcCoe Idealize.SL.Sem Idealize.ShloMosaic.StableHlo

namespace Cert.Proof.Reference

open Cert.ReferenceIdeal

/-- The reduction's body is a step of the argmax over pairs. -/
theorem reducer_eq_better (a b : EReal × BitVec 32) :
    reducer_argmax_f32_i32 (F := Ideal) a b = better a b := by
  obtain ⟨a, i⟩ := a
  obtain ⟨b, j⟩ := b
  simp only [reducer_argmax_f32_i32, better, Ideal.cmpf_def, Ideal.cmp, IntOp.cmpi, IntOp.ori, IntOp.andi,
    Scalar.select, BitVec.slt_iff_toInt_lt]
  rcases lt_trichotomy b a with h | rfl | h
  · simp [h, h.ne']
  · by_cases hij : i.slt j
    · have := BitVec.slt_iff_toInt_lt.1 hij
      simp [hij, this]
    · have : ¬ i.toInt < j.toInt := fun h => hij (BitVec.slt_iff_toInt_lt.2 h)
      simp [hij, this]
  · simp [h.not_gt, h.ne]

/-- The scores of one row. -/
def rowOf (z : S16x32x100000.Idx → EReal) (s : Fin 16) (b : Fin 32) (v : Fin 100000) : EReal := z (ix3 s b v)

/-- An entry read off by the two coordinates its reduction keeps and the one it drops. -/
theorem drop_eq_iff (h : S16x32x100000.ReducesTo [2] S16x32) (i : S16x32x100000.Idx) (j : S16x32.Idx) :
    h.drop i = j ↔ i = ix3 (j 0) (j 1) (i 2) := by
  constructor
  · rintro rfl
    rw [eq_ix3 i]
    rfl
  · intro hi
    rw [hi]
    funext a
    match a with
    | ⟨0, _⟩ => rfl
    | ⟨1, _⟩ => rfl

/-- The argmax of every row: the first position at which it is greatest. -/
theorem argReduce_eq (z : S16x32x100000.Idx → EReal) (h : S16x32x100000.ReducesTo [2] S16x32) (hu : 0 < S_.numel)
    (j : S16x32.Idx) :
    (Host.argReduce (F := Ideal) (φ := .f32) reducer_argmax_f32_i32 z (iotaInDim S16x32x100000 32 2)
      (constant S_ .f32 0xFF800000#32) (constantI S_ 32 0#32) h hu j).2
      = BitVec.ofNat 32 (firstMax (rowOf z (j 0) (j 1))).val := by
  have hb : constant (F := Ideal) S_ .f32 0xFF800000#32 (Shape.Idx.first hu) = (⊥ : EReal) := by
    simp [constant, Ideal.ofBits_def, Ideal.ofBits, Ideal.ieee]
  rw [Ideal.argReduce_eq_reduce2, Host.reduce2_eq_foldl_fiber,
    show (reducer_argmax_f32_i32 (F := Ideal)) = better from funext fun a => funext fun b => reducer_eq_better a b, hb]
  refine congrArg Prod.snd (foldl_better (by norm_num) (firstMax_spec (rowOf z (j 0) (j 1))) _ (fun q hq => ?_) ?_)
  · simp only [Host.argReduceFiber, List.mem_map, List.mem_filter, decide_eq_true_eq, drop_eq_iff] at hq
    obtain ⟨k, ⟨-, hk⟩, rfl⟩ := hq
    refine ⟨S16x32x100000.rowMajor.symm k 2, Prod.ext ?_ rfl⟩
    exact congrArg z hk
  · simp only [Host.argReduceFiber, List.mem_map, List.mem_filter, decide_eq_true_eq, drop_eq_iff]
    refine ⟨S16x32x100000.rowMajor (ix3 (j 0) (j 1) (firstMax (rowOf z (j 0) (j 1)))), ⟨List.mem_finRange _, ?_⟩, ?_⟩
    · rw [Equiv.symm_apply_apply]; rfl
    · rw [Equiv.symm_apply_apply]; rfl

/-- The argmax's operations leave the argument as it was and the first greatest positions. -/
theorem argmax_label {x : S32x100000.Idx → EReal} {z : S16x32x100000.Idx → EReal} {V : Vals}
    (hx : V (Proc.devRef .tc main_arg0) = x) (hz : V (Proc.devRef .tc main_v16) = z) :
    after argmax.1 V (Proc.devRef .tc main_arg0) = x ∧
    after argmax.1 V (Proc.devRef .tc main_v17) = fun j => BitVec.ofNat 32 (firstMax (rowOf z (j 0) (j 1))).val := by
  simp only [argmax]
  constructor <;> after_results_simp
  · exact hx
  · simp only [hz, TRef.toBuf, TRef.ofBuf, cast_eq]
    exact funext fun j => argReduce_eq z Gen.reducesTo_S16x32x100000_S16x32_d2 Gen.h_S_ j

/-- The labels spread over the classes and compared with them, as numbers: one at the label's class, zero elsewhere. -/
theorem oneHot_apply (l : S16x32.Idx → BitVec 32) (i : S16x32x100000.Idx) :
    uitofp (F := Ideal) .f32 (cmpi .eq
      (broadcastInDim S16x32x100000 ![0, 1, 2] Gen.bcast_S16x32x1_S16x32x100000_0_1_2
        (broadcastInDim S16x32x1 ![0, 1] Gen.bcast_S16x32_S16x32x1_0_1 l))
      (broadcastInDim S16x32x100000 ![0, 1, 2] Gen.bcast_S1x1x100000_S16x32x100000_0_1_2
        (iotaInDim S1x1x100000 32 2))) i
      = if l (ix2 (i 0) (i 1)) = BitVec.ofNat 32 (i 2).val then (1 : EReal) else 0 := by
  have h : broadcastInDim S16x32x100000 ![0, 1, 2] Gen.bcast_S16x32x1_S16x32x100000_0_1_2
      (broadcastInDim S16x32x1 ![0, 1] Gen.bcast_S16x32_S16x32x1_0_1 l) i = l (ix2 (i 0) (i 1)) := by
    pointwise
  show FloatOps.uitofp (F := Ideal) .f32 (IntOp.cmpi .eq _ (BitVec.ofNat 32 (i 2).val)) = _
  rw [h]
  generalize l (ix2 (i 0) (i 1)) = a
  generalize BitVec.ofNat 32 (i 2).val = b
  by_cases hab : a = b
  · subst hab
    simp [IntOp.cmpi, FloatOps.uitofp]
  · simp [IntOp.cmpi, FloatOps.uitofp, hab]

/-- The one-hot operations leave the argument as it was and the one-hot rows of the labels. -/
theorem oneHot_rows {x : S32x100000.Idx → EReal} {l : S16x32.Idx → BitVec 32} {V : Vals}
    (hx : V (Proc.devRef .tc main_arg0) = x) (hl : V (Proc.devRef .tc main_v17) = l) :
    after oneHot.1 V (Proc.devRef .tc main_arg0) = x ∧
    after oneHot.1 V (Proc.devRef .tc main_v18) =
      fun i => if l (ix2 (i 0) (i 1)) = BitVec.ofNat 32 (i 2).val then (1 : EReal) else 0 := by
  simp only [oneHot]
  constructor <;> after_results_simp
  · exact hx
  · simp only [hl, TRef.toBuf, TRef.ofBuf, cast_eq]
    exact funext fun i => oneHot_apply l i

/-- The reference's result over the argument `x`: in every row a one at the first position at which the row's scores are
    greatest, zeros elsewhere. -/
def result (x : S32x100000.Idx → EReal) (i : S16x32x100000.Idx) : EReal :=
  if BitVec.ofNat 32 (firstMax (rowOf (score x) (i 0) (i 1))).val = BitVec.ofNat 32 (i 2).val then 1 else 0

/-- All of the reference's operations: the argument as it was, and the result. -/
theorem line_result {x : S32x100000.Idx → EReal} {V : Vals} (hx : V (Proc.devRef .tc main_arg0) = x) :
    after line.1 V (Proc.devRef .tc main_arg0) = x ∧ after line.1 V (Proc.devRef .tc main_v18) = result x := by
  rw [line_eq]
  simp only [after_append]
  obtain ⟨hx', hz⟩ := upto_scores hx
  obtain ⟨hx'', hl⟩ := argmax_label hx' hz
  exact oneHot_rows hx'' hl

end Cert.Proof.Reference

end
-- ==== Proof.KernelValue.lean ====
/-
  What the whole kernel leaves in its result, from the field through the labels to the one-hot rows, and that it is what
  the reference leaves.
-/
module

public import proofs.«01_k».proof.Proof.KernelField
public import proofs.«01_k».proof.Proof.KernelRows
public import proofs.«01_k».proof.Proof.RefValue
public import Idealize.ShloMosaic.Lib.StableHlo.ReadAt

@[expose] public section

noncomputable section

open Idealize.ShloMosaic Idealize.ShloMosaic.TcCoe Idealize.SL.Sem Idealize.ShloMosaic.StableHlo

namespace Cert.Proof

open Cert.KernelIdeal Cert.KernelIdeal.Gen

variable (m : (ℓ : Loc nD τ sig) → Buf (Elt Ideal) ℓ) (ρ : Dev nD → PrngReg) (c : Dev nD)

/-- The argument on a device. -/
def arg : S32x100000.Idx → EReal := m ((c : Thread nD τ).loc main_arg0)

/-- After the first launch the argument is as launched. -/
theorem arg_after : W1 m ρ c (Proc.devRef .tc main_arg0) = arg m c := W1_args m ρ c main_arg0 (by decide)

/-- After the first launch its array holds the field. -/
theorem field_after : W1 m ρ c (Proc.devRef .tc main_v0) = Field.field :=
  (W1_arr m ρ c 0).trans (Field.arr_eq (V0 m ρ) c)

/-- After the second launch its array holds the label of every row. -/
theorem labels_after : W2 m ρ c (Proc.devRef .tc main_call0_v0) = fun i : S512x1.Idx => Rows.label Field.field (arg m c) (i 0) :=
  (W2_arr m ρ c 2).trans (Rows.labels_eq (V1 m ρ) c (field_after m ρ c) (arg_after m ρ c))

/-- The labels as the host hands them on: row `32 s + b` at sample `s` and row `b`. -/
def table (x : S32x100000.Idx → EReal) (j : S16x32.Idx) : BitVec 32 :=
  Rows.label Field.field x ⟨(j 0).val * 32 + (j 1).val, by
    have h₀ : (j 0).val < 16 := (j 0).isLt
    have h₁ : (j 1).val < 32 := (j 1).isLt
    omega⟩

/-- A column of 512 cut into rows of 32, at an index. -/
theorem reshape_apply (l : Fin 512 → BitVec 32) (j : S16x32.Idx) (r : Fin 512) (hr : r.val = (j 0).val * 32 + (j 1).val) :
    shapeCast S16x32 (fun i : S512x1.Idx => l (i 0)) shapeCasts_S512x1_S16x32 j = l r := by
  pointwise
  exact congrArg l (Fin.ext hr.symm)

/-- After the host's reshape. -/
theorem table_after : W3 m ρ c (Proc.devRef .tc main_call0_v1) = table (arg m c) := by
  have h := labels_after m ρ c
  show after hostOps2 (W2 m ρ c) (Proc.devRef .tc main_call0_v1) = _
  generalize W2 m ρ c = V at h
  after_results_simp
  simp only [h, TRef.toBuf, TRef.ofBuf, cast_eq]
  exact funext fun j => reshape_apply (Rows.label Field.field (arg m c)) j _ rfl

/-- After the third launch the result holds the one-hot rows of the table. -/
theorem result_after : W4 m ρ c (Proc.devRef .tc main_v1) = Rows.hot (table (arg m c)) :=
  (W4_arr m ρ c 1).trans (Rows.hot_eq (V3 m ρ) c (table_after m ρ c))

/-- A label of the table is the label of the reference's scores. -/
theorem table_eq (x : S32x100000.Idx → EReal) (s : Fin 16) (b : Fin 32) : table x (ix2 s b)
    = BitVec.ofNat 32 (firstMax (Reference.rowOf (Reference.score x) s b)).val := by
  have hb : (s.val * 32 + b.val) % 32 = b.val := by omega
  unfold table Rows.label
  refine congrArg (fun f : Fin 100000 → EReal => BitVec.ofNat 32 (firstMax f).val) (funext fun k => congrArg₂ (· + ·) rfl ?_)
  exact congrArg (fun r => x (ix2 r k)) (Fin.ext hb)

/-- The kernel's result is the reference's, over one argument. -/
theorem hot_eq_result (x : S32x100000.Idx → EReal) : Rows.hot (table x) = Reference.result x := by
  funext i
  exact congrArg (fun a => if a = BitVec.ofNat 32 (i 2).val then (1 : EReal) else 0) (table_eq x (i 0) (i 1))

end Cert.Proof

end
-- ==== Proof.lean ====
/-
  The five claims together: the three frames, the idealization, and the equation of the kernel's result with the
  reference's over the extended reals.
-/
module

public import proofs.«01_k».proof.Defs
public import proofs.«01_k».proof.Proof.FrameKernel
public import proofs.«01_k».proof.Proof.KernelValue
public import Idealize.ShloMosaic.Lib.Quiescent

@[expose] public section

noncomputable section

namespace Cert.Proof

open Idealize.ShloMosaic Idealize.ShloMosaic.TcCoe Idealize.SL.Sem

/-- The kernel as printed ends with its argument unchanged and every semaphore counter at zero. -/
theorem frame_kernel : Cert.quiescent_Kernel := fun m g _ => Cert.Kernel.Gen.frame m g

/-- The idealized kernel ends with its argument unchanged and every semaphore counter at zero. -/
theorem frame_ideal : Cert.quiescent_KernelIdeal := fun m g _ => Cert.KernelIdeal.Gen.frame m g

/-- The reference leaves its argument as it was and its result, at each device's launch contents. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ fun r => ∀ c : Dev ReferenceIdeal.nD,
        r.2.mem ((c.tc : Thread ReferenceIdeal.nD ReferenceIdeal.τ).loc ReferenceIdeal.main_v18)
          = Reference.result (m ((c.tc : Thread ReferenceIdeal.nD ReferenceIdeal.τ).loc ReferenceIdeal.main_arg0))
        ∧ r.2.mem ((c.tc : Thread ReferenceIdeal.nD ReferenceIdeal.τ).loc ReferenceIdeal.main_arg0)
          = m ((c.tc : Thread ReferenceIdeal.nD ReferenceIdeal.τ).loc ReferenceIdeal.main_arg0) :=
  (θ_run _ _ _).mono (fun _ h c =>
    have e := Reference.line_result (V := StableHlo.launchContents m c) rfl
    ⟨(h c _).trans e.2, (h c _).trans e.1⟩) (Reference.run m g)

/-- The reference ends with its argument unchanged and, having no semaphore, every counter at zero. -/
theorem frame_reference : Cert.quiescent_ReferenceIdeal := fun m g _ =>
  (θ_run _ _ _).mono (fun r h => ⟨fun c => (h c).2, sem_eq_zero_of_no_sems (by decide) r.2⟩) (reference_run m g)

/-- The idealized kernel's result and the reference's are equal over the extended reals, from equal arguments. -/
theorem equation : Cert.algebraic_KernelIdeal_ReferenceIdeal := fun m g m' g' _ agree => by
  refine ⟨fun c => Rows.hot (table (arg m c)), ?_, ?_⟩
  · refine (θ_run _ _ _).mono (fun r h c => ?_) (Cert.KernelIdeal.Gen.run m g)
    exact ⟨(h.1 c _ (Cert.KernelIdeal.Gen.mem_uc KernelIdeal.main_v1 (by decide))).trans (result_after m g c),
      (h.1 c _ (Cert.KernelIdeal.Gen.mem_uc KernelIdeal.main_arg0 (by decide))).trans
        (Cert.KernelIdeal.Gen.W4_main_arg0 m g c)⟩
  · refine (θ_run _ _ _).mono (fun r h c => ⟨(h c).1.trans ?_, (h c).2⟩) (reference_run m' g')
    exact (congrArg Reference.result (agree c)).trans (hot_eq_result (arg m c)).symm

/-- Everything claimed. -/
theorem claim : Cert.Claim :=
  ⟨Cert.Kernel.Gen.facts, Cert.KernelIdeal.Gen.facts, Cert.ReferenceIdeal.Gen.facts,
    frame_kernel, frame_ideal, frame_reference, trivial, equation⟩

end Cert.Proof

end
